-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S256x1024 : Shape := ⟨2, ![256, 1024]⟩
abbrev S2048x1024 : Shape := ⟨2, ![2048, 1024]⟩
abbrev S_ : Shape := ⟨0, ![]⟩
abbrev S8 : Shape := ⟨1, ![8]⟩
abbrev S2048x64 : Shape := ⟨2, ![2048, 64]⟩
abbrev S2048x2048 : Shape := ⟨2, ![2048, 2048]⟩
abbrev S2048 : Shape := ⟨1, ![2048]⟩
abbrev S2048x256 : Shape := ⟨2, ![2048, 256]⟩
abbrev S256x512 : Shape := ⟨2, ![256, 512]⟩
abbrev S32x512 : Shape := ⟨2, ![32, 512]⟩
abbrev S1x512x1024 : Shape := ⟨3, ![1, 512, 1024]⟩
abbrev S512x1024 : Shape := ⟨2, ![512, 1024]⟩
abbrev S32x1024 : Shape := ⟨2, ![32, 1024]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S8x512x1024, .f32⟩
  | .hbm, ⟨4, _⟩ => ⟨S256x1024, .f32⟩
  | .local _ .vmem, ⟨0, _⟩ => ⟨S2048x1, .i32⟩
  | .local _ .vmem, ⟨1, _⟩ => ⟨S256x1024, .f32⟩
  | .local _ .vmem, ⟨2, _⟩ => ⟨S2048x512, .f32⟩
  | .local _ .vmem, ⟨3, _⟩ => ⟨S8x512x1024, .f32⟩
  | .local _ .vmem, ⟨4, _⟩ => ⟨S2048x1024, .bf16⟩
  | .local _ .vmem, ⟨5, _⟩ => ⟨S2048x1024, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_364 : BitVec 32 := 0#32
  let c0_i32_362 : BitVec 32 := 0#32
  let c1_i32_363 : BitVec 32 := 1#32
  let v588 : BitVec 32 := Scalar.muli c0_i32_362 c1_i32_363
  let v589 : BitVec 32 := Scalar.addi c0_i32_364 v588
  v589.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_364 : BitVec 32 := 0#32
  let c1_i32_362 : BitVec 32 := 1#32
  let c1_i32_363 : BitVec 32 := 1#32
  let v588 : BitVec 32 := Scalar.muli c1_i32_362 c1_i32_363
  let v589 : BitVec 32 := Scalar.addi c0_i32_364 v588
  v589.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_364 : BitVec 32 := 0#32
  let c2_i32_362 : BitVec 32 := 2#32
  let c1_i32_363 : BitVec 32 := 1#32
  let v588 : BitVec 32 := Scalar.muli c2_i32_362 c1_i32_363
  let v589 : BitVec 32 := Scalar.addi c0_i32_364 v588
  v589.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_364 : BitVec 32 := 0#32
  let c3_i32_362 : BitVec 32 := 3#32
  let c1_i32_363 : BitVec 32 := 1#32
  let v588 : BitVec 32 := Scalar.muli c3_i32_362 c1_i32_363
  let v589 : BitVec 32 := Scalar.addi c0_i32_364 v588
  v589.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_364 : BitVec 32 := 0#32
  let c4_i32_362 : BitVec 32 := 4#32
  let c1_i32_363 : BitVec 32 := 1#32
  let v588 : BitVec 32 := Scalar.muli c4_i32_362 c1_i32_363
  let v589 : BitVec 32 := Scalar.addi c0_i32_364 v588
  v589.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_364 : BitVec 32 := 0#32
  let c5_i32_362 : BitVec 32 := 5#32
  let c1_i32_363 : BitVec 32 := 1#32
  let v588 : BitVec 32 := Scalar.muli c5_i32_362 c1_i32_363
  let v589 : BitVec 32 := Scalar.addi c0_i32_364 v588
  v589.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_364 : BitVec 32 := 0#32
  let c6_i32_362 : BitVec 32 := 6#32
  let c1_i32_363 : BitVec 32 := 1#32
  let v588 : BitVec 32 := Scalar.muli c6_i32_362 c1_i32_363
  let v589 : BitVec 32 := Scalar.addi c0_i32_364 v588
  v589.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_364 : BitVec 32 := 0#32
  let c7_i32_362 : BitVec 32 := 7#32
  let c1_i32_363 : BitVec 32 := 1#32
  let v588 : BitVec 32 := Scalar.muli c7_i32_362 c1_i32_363
  let v589 : BitVec 32 := Scalar.addi c0_i32_364 v588
  v589.toNat
def k0_off1 (d0 : Dev nD) (c1_i32_57 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v156 : BitVec 32 := Scalar.addi v2 c1_i32_57
  let c8_i32_58 : BitVec 32 := 8#32
  let c0_i32_59 : BitVec 32 := 0#32
  let v157 : BitVec 1 := Scalar.cmpi .eq c8_i32_58 c0_i32_59
  let c1_i32_60 : BitVec 32 := 1#32
  let v158 : BitVec 32 := Scalar.select v157 c1_i32_60 c8_i32_58
  let v159 : BitVec 32 := Scalar.remsi v156 v158
  let c0_i32_62 : BitVec 32 := 0#32
  let v161 : BitVec 1 := Scalar.cmpi .slt v159 c0_i32_62
  let c0_i32_63 : BitVec 32 := 0#32
  let v162 : BitVec 1 := Scalar.cmpi .slt v158 c0_i32_63
  let v163 : BitVec 1 := Scalar.xori v161 v162
  let c0_i32_61 : BitVec 32 := 0#32
  let v160 : BitVec 1 := Scalar.cmpi .ne v159 c0_i32_61
  let v164 : BitVec 1 := Scalar.andi v163 v160
  let v165 : BitVec 32 := Scalar.addi v159 v158
  let v166 : BitVec 32 := Scalar.select v164 v165 v159
  ![v166.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_64 : BitVec 32 := 256#32
  let v168 : BitVec 32 := Scalar.muli v2 c256_i32_64
  let c0_i32_67 : BitVec 32 := 0#32
  ![v168.toNat, 0]
def k0_off4 (d0 : Dev nD) (c1_i32_57 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v156 : BitVec 32 := Scalar.addi v2 c1_i32_57
  let c8_i32_58 : BitVec 32 := 8#32
  let c0_i32_59 : BitVec 32 := 0#32
  let v157 : BitVec 1 := Scalar.cmpi .eq c8_i32_58 c0_i32_59
  let c1_i32_60 : BitVec 32 := 1#32
  let v158 : BitVec 32 := Scalar.select v157 c1_i32_60 c8_i32_58
  let v159 : BitVec 32 := Scalar.remsi v156 v158
  let c0_i32_62 : BitVec 32 := 0#32
  let v161 : BitVec 1 := Scalar.cmpi .slt v159 c0_i32_62
  let c0_i32_63 : BitVec 32 := 0#32
  let v162 : BitVec 1 := Scalar.cmpi .slt v158 c0_i32_63
  let v163 : BitVec 1 := Scalar.xori v161 v162
  let c0_i32_61 : BitVec 32 := 0#32
  let v160 : BitVec 1 := Scalar.cmpi .ne v159 c0_i32_61
  let v164 : BitVec 1 := Scalar.andi v163 v160
  let v165 : BitVec 32 := Scalar.addi v159 v158
  let v166 : BitVec 32 := Scalar.select v164 v165 v159
  let c256_i32 : BitVec 32 := 256#32
  let v167 : BitVec 32 := Scalar.muli v166 c256_i32
  let c0_i32_68 : BitVec 32 := 0#32
  ![v167.toNat, 0]
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v156 : BitVec 32 := Scalar.addi v2 c1_i32_57
  let c8_i32_58 : BitVec 32 := 8#32
  let c0_i32_59 : BitVec 32 := 0#32
  let v157 : BitVec 1 := Scalar.cmpi .eq c8_i32_58 c0_i32_59
  let c1_i32_60 : BitVec 32 := 1#32
  let v158 : BitVec 32 := Scalar.select v157 c1_i32_60 c8_i32_58
  let v159 : BitVec 32 := Scalar.remsi v156 v158
  let c0_i32_62 : BitVec 32 := 0#32
  let v161 : BitVec 1 := Scalar.cmpi .slt v159 c0_i32_62
  let c0_i32_63 : BitVec 32 := 0#32
  let v162 : BitVec 1 := Scalar.cmpi .slt v158 c0_i32_63
  let v163 : BitVec 1 := Scalar.xori v161 v162
  let c0_i32_61 : BitVec 32 := 0#32
  let v160 : BitVec 1 := Scalar.cmpi .ne v159 c0_i32_61
  let v164 : BitVec 1 := Scalar.andi v163 v160
  let v165 : BitVec 32 := Scalar.addi v159 v158
  let v166 : BitVec 32 := Scalar.select v164 v165 v159
  let c1_i32_65 : BitVec 32 := 1#32
  let v169 : BitVec 32 := Scalar.muli v166 c1_i32_65
  let v170 : BitVec 32 := Scalar.addi c0_i32_66 v169
  v170.toNat
def k0_dev10 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_69 : BitVec 32 := 2#32
  let v177 : BitVec 32 := Scalar.addi v2 c2_i32_69
  let c8_i32_70 : BitVec 32 := 8#32
  let c0_i32_71 : BitVec 32 := 0#32
  let v178 : BitVec 1 := Scalar.cmpi .eq c8_i32_70 c0_i32_71
  let c1_i32_72 : BitVec 32 := 1#32
  let v179 : BitVec 32 := Scalar.select v178 c1_i32_72 c8_i32_70
  let v180 : BitVec 32 := Scalar.remsi v177 v179
  let c0_i32_74 : BitVec 32 := 0#32
  let v182 : BitVec 1 := Scalar.cmpi .slt v180 c0_i32_74
  let c0_i32_75 : BitVec 32 := 0#32
  let v183 : BitVec 1 := Scalar.cmpi .slt v179 c0_i32_75
  let v184 : BitVec 1 := Scalar.xori v182 v183
  let c0_i32_73 : BitVec 32 := 0#32
  let v181 : BitVec 1 := Scalar.cmpi .ne v180 c0_i32_73
  let v185 : BitVec 1 := Scalar.andi v184 v181
  let v186 : BitVec 32 := Scalar.addi v180 v179
  let v187 : BitVec 32 := Scalar.select v185 v186 v180
  let c1_i32_78 : BitVec 32 := 1#32
  let v190 : BitVec 32 := Scalar.muli v187 c1_i32_78
  let v191 : BitVec 32 := Scalar.addi c0_i32_79 v190
  v191.toNat
def k0_dev11 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_82 : BitVec 32 := 3#32
  let v198 : BitVec 32 := Scalar.addi v2 c3_i32_82
  let c8_i32_83 : BitVec 32 := 8#32
  let c0_i32_84 : BitVec 32 := 0#32
  let v199 : BitVec 1 := Scalar.cmpi .eq c8_i32_83 c0_i32_84
  let c1_i32_85 : BitVec 32 := 1#32
  let v200 : BitVec 32 := Scalar.select v199 c1_i32_85 c8_i32_83
  let v201 : BitVec 32 := Scalar.remsi v198 v200
  let c0_i32_87 : BitVec 32 := 0#32
  let v203 : BitVec 1 := Scalar.cmpi .slt v201 c0_i32_87
  let c0_i32_88 : BitVec 32 := 0#32
  let v204 : BitVec 1 := Scalar.cmpi .slt v200 c0_i32_88
  let v205 : BitVec 1 := Scalar.xori v203 v204
  let c0_i32_86 : BitVec 32 := 0#32
  let v202 : BitVec 1 := Scalar.cmpi .ne v201 c0_i32_86
  let v206 : BitVec 1 := Scalar.andi v205 v202
  let v207 : BitVec 32 := Scalar.addi v201 v200
  let v208 : BitVec 32 := Scalar.select v206 v207 v201
  let c1_i32_91 : BitVec 32 := 1#32
  let v211 : BitVec 32 := Scalar.muli v208 c1_i32_91
  let v212 : BitVec 32 := Scalar.addi c0_i32_92 v211
  v212.toNat
def k0_dev12 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_95 : BitVec 32 := 4#32
  let v219 : BitVec 32 := Scalar.addi v2 c4_i32_95
  let c8_i32_96 : BitVec 32 := 8#32
  let c0_i32_97 : BitVec 32 := 0#32
  let v220 : BitVec 1 := Scalar.cmpi .eq c8_i32_96 c0_i32_97
  let c1_i32_98 : BitVec 32 := 1#32
  let v221 : BitVec 32 := Scalar.select v220 c1_i32_98 c8_i32_96
  let v222 : BitVec 32 := Scalar.remsi v219 v221
  let c0_i32_100 : BitVec 32 := 0#32
  let v224 : BitVec 1 := Scalar.cmpi .slt v222 c0_i32_100
  let c0_i32_101 : BitVec 32 := 0#32
  let v225 : BitVec 1 := Scalar.cmpi .slt v221 c0_i32_101
  let v226 : BitVec 1 := Scalar.xori v224 v225
  let c0_i32_99 : BitVec 32 := 0#32
  let v223 : BitVec 1 := Scalar.cmpi .ne v222 c0_i32_99
  let v227 : BitVec 1 := Scalar.andi v226 v223
  let v228 : BitVec 32 := Scalar.addi v222 v221
  let v229 : BitVec 32 := Scalar.select v227 v228 v222
  let c1_i32_104 : BitVec 32 := 1#32
  let v232 : BitVec 32 := Scalar.muli v229 c1_i32_104
  let v233 : BitVec 32 := Scalar.addi c0_i32_105 v232
  v233.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_108 : BitVec 32 := 5#32
  let v240 : BitVec 32 := Scalar.addi v2 c5_i32_108
  let c8_i32_109 : BitVec 32 := 8#32
  let c0_i32_110 : BitVec 32 := 0#32
  let v241 : BitVec 1 := Scalar.cmpi .eq c8_i32_109 c0_i32_110
  let c1_i32_111 : BitVec 32 := 1#32
  let v242 : BitVec 32 := Scalar.select v241 c1_i32_111 c8_i32_109
  let v243 : BitVec 32 := Scalar.remsi v240 v242
  let c0_i32_113 : BitVec 32 := 0#32
  let v245 : BitVec 1 := Scalar.cmpi .slt v243 c0_i32_113
  let c0_i32_114 : BitVec 32 := 0#32
  let v246 : BitVec 1 := Scalar.cmpi .slt v242 c0_i32_114
  let v247 : BitVec 1 := Scalar.xori v245 v246
  let c0_i32_112 : BitVec 32 := 0#32
  let v244 : BitVec 1 := Scalar.cmpi .ne v243 c0_i32_112
  let v248 : BitVec 1 := Scalar.andi v247 v244
  let v249 : BitVec 32 := Scalar.addi v243 v242
  let v250 : BitVec 32 := Scalar.select v248 v249 v243
  let c1_i32_117 : BitVec 32 := 1#32
  let v253 : BitVec 32 := Scalar.muli v250 c1_i32_117
  let v254 : BitVec 32 := Scalar.addi c0_i32_118 v253
  v254.toNat
def k0_dev14 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_121 : BitVec 32 := 6#32
  let v261 : BitVec 32 := Scalar.addi v2 c6_i32_121
  let c8_i32_122 : BitVec 32 := 8#32
  let c0_i32_123 : BitVec 32 := 0#32
  let v262 : BitVec 1 := Scalar.cmpi .eq c8_i32_122 c0_i32_123
  let c1_i32_124 : BitVec 32 := 1#32
  let v263 : BitVec 32 := Scalar.select v262 c1_i32_124 c8_i32_122
  let v264 : BitVec 32 := Scalar.remsi v261 v263
  let c0_i32_126 : BitVec 32 := 0#32
  let v266 : BitVec 1 := Scalar.cmpi .slt v264 c0_i32_126
  let c0_i32_127 : BitVec 32 := 0#32
  let v267 : BitVec 1 := Scalar.cmpi .slt v263 c0_i32_127
  let v268 : BitVec 1 := Scalar.xori v266 v267
  let c0_i32_125 : BitVec 32 := 0#32
  let v265 : BitVec 1 := Scalar.cmpi .ne v264 c0_i32_125
  let v269 : BitVec 1 := Scalar.andi v268 v265
  let v270 : BitVec 32 := Scalar.addi v264 v263
  let v271 : BitVec 32 := Scalar.select v269 v270 v264
  let c1_i32_130 : BitVec 32 := 1#32
  let v274 : BitVec 32 := Scalar.muli v271 c1_i32_130
  let v275 : BitVec 32 := Scalar.addi c0_i32_131 v274
  v275.toNat
def k0_dev15 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_134 : BitVec 32 := 7#32
  let v282 : BitVec 32 := Scalar.addi v2 c7_i32_134
  let c8_i32_135 : BitVec 32 := 8#32
  let c0_i32_136 : BitVec 32 := 0#32
  let v283 : BitVec 1 := Scalar.cmpi .eq c8_i32_135 c0_i32_136
  let c1_i32_137 : BitVec 32 := 1#32
  let v284 : BitVec 32 := Scalar.select v283 c1_i32_137 c8_i32_135
  let v285 : BitVec 32 := Scalar.remsi v282 v284
  let c0_i32_139 : BitVec 32 := 0#32
  let v287 : BitVec 1 := Scalar.cmpi .slt v285 c0_i32_139
  let c0_i32_140 : BitVec 32 := 0#32
  let v288 : BitVec 1 := Scalar.cmpi .slt v284 c0_i32_140
  let v289 : BitVec 1 := Scalar.xori v287 v288
  let c0_i32_138 : BitVec 32 := 0#32
  let v286 : BitVec 1 := Scalar.cmpi .ne v285 c0_i32_138
  let v290 : BitVec 1 := Scalar.andi v289 v286
  let v291 : BitVec 32 := Scalar.addi v285 v284
  let v292 : BitVec 32 := Scalar.select v290 v291 v285
  let c1_i32_143 : BitVec 32 := 1#32
  let v295 : BitVec 32 := Scalar.muli v292 c1_i32_143
  let v296 : BitVec 32 := Scalar.addi c0_i32_144 v295
  v296.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_147 : BitVec 32 := 256#32
  let v303 : BitVec 32 := Scalar.muli v2 c256_i32_147
  let v304 : Index := Scalar.indexCast v303
  let c0_148 : Index := 0#32
  ![v304.toNat, 0]
def k0_off6 (d0 : Dev nD) (c1_i32_150 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_149 : BitVec 32 := 8#32
  let v307 : BitVec 32 := Scalar.addi v2 c8_i32_149
  let v308 : BitVec 32 := Scalar.subi v307 c1_i32_150
  let c8_i32_151 : BitVec 32 := 8#32
  let c0_i32_152 : BitVec 32 := 0#32
  let v309 : BitVec 1 := Scalar.cmpi .eq c8_i32_151 c0_i32_152
  let c1_i32_153 : BitVec 32 := 1#32
  let v310 : BitVec 32 := Scalar.select v309 c1_i32_153 c8_i32_151
  let v311 : BitVec 32 := Scalar.remsi v308 v310
  let c0_i32_155 : BitVec 32 := 0#32
  let v313 : BitVec 1 := Scalar.cmpi .slt v311 c0_i32_155
  let c0_i32_156 : BitVec 32 := 0#32
  let v314 : BitVec 1 := Scalar.cmpi .slt v310 c0_i32_156
  let v315 : BitVec 1 := Scalar.xori v313 v314
  let c0_i32_154 : BitVec 32 := 0#32
  let v312 : BitVec 1 := Scalar.cmpi .ne v311 c0_i32_154
  let v316 : BitVec 1 := Scalar.andi v315 v312
  let v317 : BitVec 32 := Scalar.addi v311 v310
  let v318 : BitVec 32 := Scalar.select v316 v317 v311
  ![v318.toNat]
def k0_off7 (d0 : Dev nD) (c1_i32_150 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_149 : BitVec 32 := 8#32
  let v307 : BitVec 32 := Scalar.addi v2 c8_i32_149
  let v308 : BitVec 32 := Scalar.subi v307 c1_i32_150
  let c8_i32_151 : BitVec 32 := 8#32
  let c0_i32_152 : BitVec 32 := 0#32
  let v309 : BitVec 1 := Scalar.cmpi .eq c8_i32_151 c0_i32_152
  let c1_i32_153 : BitVec 32 := 1#32
  let v310 : BitVec 32 := Scalar.select v309 c1_i32_153 c8_i32_151
  let v311 : BitVec 32 := Scalar.remsi v308 v310
  let c0_i32_155 : BitVec 32 := 0#32
  let v313 : BitVec 1 := Scalar.cmpi .slt v311 c0_i32_155
  let c0_i32_156 : BitVec 32 := 0#32
  let v314 : BitVec 1 := Scalar.cmpi .slt v310 c0_i32_156
  let v315 : BitVec 1 := Scalar.xori v313 v314
  let c0_i32_154 : BitVec 32 := 0#32
  let v312 : BitVec 1 := Scalar.cmpi .ne v311 c0_i32_154
  let v316 : BitVec 1 := Scalar.andi v315 v312
  let v317 : BitVec 32 := Scalar.addi v311 v310
  let v318 : BitVec 32 := Scalar.select v316 v317 v311
  let c256_i32_157 : BitVec 32 := 256#32
  let v319 : BitVec 32 := Scalar.muli v318 c256_i32_157
  let c0_i32_161 : BitVec 32 := 0#32
  ![v319.toNat, 0]
def k0_off8 (d0 : Dev nD) (c1_i32_150 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_149 : BitVec 32 := 8#32
  let v307 : BitVec 32 := Scalar.addi v2 c8_i32_149
  let v308 : BitVec 32 := Scalar.subi v307 c1_i32_150
  let c8_i32_151 : BitVec 32 := 8#32
  let c0_i32_152 : BitVec 32 := 0#32
  let v309 : BitVec 1 := Scalar.cmpi .eq c8_i32_151 c0_i32_152
  let c1_i32_153 : BitVec 32 := 1#32
  let v310 : BitVec 32 := Scalar.select v309 c1_i32_153 c8_i32_151
  let v311 : BitVec 32 := Scalar.remsi v308 v310
  let c0_i32_155 : BitVec 32 := 0#32
  let v313 : BitVec 1 := Scalar.cmpi .slt v311 c0_i32_155
  let c0_i32_156 : BitVec 32 := 0#32
  let v314 : BitVec 1 := Scalar.cmpi .slt v310 c0_i32_156
  let v315 : BitVec 1 := Scalar.xori v313 v314
  let c0_i32_154 : BitVec 32 := 0#32
  let v312 : BitVec 1 := Scalar.cmpi .ne v311 c0_i32_154
  let v316 : BitVec 1 := Scalar.andi v315 v312
  let v317 : BitVec 32 := Scalar.addi v311 v310
  let v318 : BitVec 32 := Scalar.select v316 v317 v311
  let c256_i32_164 : BitVec 32 := 256#32
  let v326 : BitVec 32 := Scalar.muli v318 c256_i32_164
  let v327 : Index := Scalar.indexCast v326
  let c0_165 : Index := 0#32
  ![v327.toNat, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_361_r0 : BitVec 32 := 0#32
  let v589_r0 : BitVec 1 := Scalar.cmpi .ne v2 c0_i32_361_r0
  let v590_r0 : BitVec 32 := Scalar.extui v589_r0
  let c0_i32_362_r0 : BitVec 32 := 0#32
  let v591_r0 : BitVec 1 := Scalar.cmpi .ne v590_r0 c0_i32_362_r0
  v591_r0

def k0_dev16 : Nat :=
  let c0_i32_382_r0 : BitVec 32 := 0#32
  let c0_i32_380_r0 : BitVec 32 := 0#32
  let c1_i32_381_r0 : BitVec 32 := 1#32
  let v613_r0 : BitVec 32 := Scalar.muli c0_i32_380_r0 c1_i32_381_r0
  let v614_r0 : BitVec 32 := Scalar.addi c0_i32_382_r0 v613_r0
  v614_r0.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_363_r0 : BitVec 32 := 1#32
  let v592_r0 : BitVec 1 := Scalar.cmpi .ne v2 c1_i32_363_r0
  let v593_r0 : BitVec 32 := Scalar.extui v592_r0
  let c0_i32_364_r0 : BitVec 32 := 0#32
  let v594_r0 : BitVec 1 := Scalar.cmpi .ne v593_r0 c0_i32_364_r0
  v594_r0

def k0_dev17 : Nat :=
  let c0_i32_382_r0 : BitVec 32 := 0#32
  let c1_i32_380_r0 : BitVec 32 := 1#32
  let c1_i32_381_r0 : BitVec 32 := 1#32
  let v613_r0 : BitVec 32 := Scalar.muli c1_i32_380_r0 c1_i32_381_r0
  let v614_r0 : BitVec 32 := Scalar.addi c0_i32_382_r0 v613_r0
  v614_r0.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_365_r0 : BitVec 32 := 2#32
  let v595_r0 : BitVec 1 := Scalar.cmpi .ne v2 c2_i32_365_r0
  let v596_r0 : BitVec 32 := Scalar.extui v595_r0
  let c0_i32_366_r0 : BitVec 32 := 0#32
  let v597_r0 : BitVec 1 := Scalar.cmpi .ne v596_r0 c0_i32_366_r0
  v597_r0

def k0_dev18 : Nat :=
  let c0_i32_382_r0 : BitVec 32 := 0#32
  let c2_i32_380_r0 : BitVec 32 := 2#32
  let c1_i32_381_r0 : BitVec 32 := 1#32
  let v613_r0 : BitVec 32 := Scalar.muli c2_i32_380_r0 c1_i32_381_r0
  let v614_r0 : BitVec 32 := Scalar.addi c0_i32_382_r0 v613_r0
  v614_r0.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_367_r0 : BitVec 32 := 3#32
  let v598_r0 : BitVec 1 := Scalar.cmpi .ne v2 c3_i32_367_r0
  let v599_r0 : BitVec 32 := Scalar.extui v598_r0
  let c0_i32_368_r0 : BitVec 32 := 0#32
  let v600_r0 : BitVec 1 := Scalar.cmpi .ne v599_r0 c0_i32_368_r0
  v600_r0

def k0_dev19 : Nat :=
  let c0_i32_382_r0 : BitVec 32 := 0#32
  let c3_i32_380_r0 : BitVec 32 := 3#32
  let c1_i32_381_r0 : BitVec 32 := 1#32
  let v613_r0 : BitVec 32 := Scalar.muli c3_i32_380_r0 c1_i32_381_r0
  let v614_r0 : BitVec 32 := Scalar.addi c0_i32_382_r0 v613_r0
  v614_r0.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_369_r0 : BitVec 32 := 4#32
  let v601_r0 : BitVec 1 := Scalar.cmpi .ne v2 c4_i32_369_r0
  let v602_r0 : BitVec 32 := Scalar.extui v601_r0
  let c0_i32_370_r0 : BitVec 32 := 0#32
  let v603_r0 : BitVec 1 := Scalar.cmpi .ne v602_r0 c0_i32_370_r0
  v603_r0

def k0_dev20 : Nat :=
  let c0_i32_382_r0 : BitVec 32 := 0#32
  let c4_i32_380_r0 : BitVec 32 := 4#32
  let c1_i32_381_r0 : BitVec 32 := 1#32
  let v613_r0 : BitVec 32 := Scalar.muli c4_i32_380_r0 c1_i32_381_r0
  let v614_r0 : BitVec 32 := Scalar.addi c0_i32_382_r0 v613_r0
  v614_r0.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_371_r0 : BitVec 32 := 5#32
  let v604_r0 : BitVec 1 := Scalar.cmpi .ne v2 c5_i32_371_r0
  let v605_r0 : BitVec 32 := Scalar.extui v604_r0
  let c0_i32_372_r0 : BitVec 32 := 0#32
  let v606_r0 : BitVec 1 := Scalar.cmpi .ne v605_r0 c0_i32_372_r0
  v606_r0

def k0_dev21 : Nat :=
  let c0_i32_382_r0 : BitVec 32 := 0#32
  let c5_i32_380_r0 : BitVec 32 := 5#32
  let c1_i32_381_r0 : BitVec 32 := 1#32
  let v613_r0 : BitVec 32 := Scalar.muli c5_i32_380_r0 c1_i32_381_r0
  let v614_r0 : BitVec 32 := Scalar.addi c0_i32_382_r0 v613_r0
  v614_r0.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_373_r0 : BitVec 32 := 6#32
  let v607_r0 : BitVec 1 := Scalar.cmpi .ne v2 c6_i32_373_r0
  let v608_r0 : BitVec 32 := Scalar.extui v607_r0
  let c0_i32_374_r0 : BitVec 32 := 0#32
  let v609_r0 : BitVec 1 := Scalar.cmpi .ne v608_r0 c0_i32_374_r0
  v609_r0

def k0_dev22 : Nat :=
  let c0_i32_382_r0 : BitVec 32 := 0#32
  let c6_i32_380_r0 : BitVec 32 := 6#32
  let c1_i32_381_r0 : BitVec 32 := 1#32
  let v613_r0 : BitVec 32 := Scalar.muli c6_i32_380_r0 c1_i32_381_r0
  let v614_r0 : BitVec 32 := Scalar.addi c0_i32_382_r0 v613_r0
  v614_r0.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_375_r0 : BitVec 32 := 7#32
  let v610_r0 : BitVec 1 := Scalar.cmpi .ne v2 c7_i32_375_r0
  let v611_r0 : BitVec 32 := Scalar.extui v610_r0
  let c0_i32_376_r0 : BitVec 32 := 0#32
  let v612_r0 : BitVec 1 := Scalar.cmpi .ne v611_r0 c0_i32_376_r0
  v612_r0

def k0_dev23 : Nat :=
  let c0_i32_382_r0 : BitVec 32 := 0#32
  let c7_i32_380_r0 : BitVec 32 := 7#32
  let c1_i32_381_r0 : BitVec 32 := 1#32
  let v613_r0 : BitVec 32 := Scalar.muli c7_i32_380_r0 c1_i32_381_r0
  let v614_r0 : BitVec 32 := Scalar.addi c0_i32_382_r0 v613_r0
  v614_r0.toNat
abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S64 : Shape := ⟨1, ![64]⟩
abbrev S1x64 : Shape := ⟨2, ![1, 64]⟩
abbrev S2048x64 : Shape := ⟨2, ![2048, 64]⟩
abbrev S_ : Shape := ⟨0, ![]⟩
abbrev S64x1024x2048 : Shape := ⟨3, ![64, 1024, 2048]⟩
abbrev S64x2048x1024 : Shape := ⟨3, ![64, 2048, 1024]⟩
abbrev S64x2048 : Shape := ⟨2, ![64, 2048]⟩
abbrev S64x2048x1 : Shape := ⟨3, ![64, 2048, 1]⟩
abbrev S2048x1024 : Shape := ⟨2, ![2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S2048, .i32⟩
  | .hbm, ⟨5, _⟩ => ⟨S64, .i32⟩
  | .hbm, ⟨6, _⟩ => ⟨S2048x1, .i32⟩
  | .hbm, ⟨7, _⟩ => ⟨S1x64, .i32⟩
  | .hbm, ⟨8, _⟩ => ⟨S2048x64, .i32⟩
  | .hbm, ⟨9, _⟩ => ⟨S2048x64, .i32⟩
  | .hbm, ⟨10, _⟩ => ⟨S2048x64, .i1⟩
  | .hbm, ⟨11, _⟩ => ⟨S2048x64, .i32⟩
  | .hbm, ⟨12, _⟩ => ⟨S_, .i32⟩
  | .hbm, ⟨13, _⟩ => ⟨S_, .i32⟩
  | .hbm, ⟨14, _⟩ => ⟨S2048x64, .i32⟩
  | .hbm, ⟨15, _⟩ => ⟨S_, .i32⟩
  | .hbm, ⟨16, _⟩ => ⟨S2048x64, .i32⟩
  | .hbm, ⟨17, _⟩ => ⟨S2048x64, .i1⟩
  | .hbm, ⟨18, _⟩ => ⟨S2048x64, .i1⟩
  | .hbm, ⟨19, _⟩ => ⟨S64x1024x2048, .f32⟩
  | .hbm, ⟨20, _⟩ => ⟨S64x2048x1024, .f32⟩
  | .hbm, ⟨21, _⟩ => ⟨S64x2048, .i1⟩
  | .hbm, ⟨22, _⟩ => ⟨S64x2048x1, .i1⟩
  | .hbm, ⟨23, _⟩ => ⟨S_, .f32⟩
  | .hbm, ⟨24, _⟩ => ⟨S_, .f32⟩
  | .hbm, ⟨25, _⟩ => ⟨S64x2048x1024, .i1⟩
  | .hbm, ⟨26, _⟩ => ⟨S64x2048x1024, .f32⟩
  | .hbm, ⟨27, _⟩ => ⟨S64x2048x1024, .f32⟩
  | .hbm, ⟨28, _⟩ => ⟨S_, .f32⟩
  | .hbm, ⟨29, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Proof.Protocol.lean ====
/-
# The dispatch kernel's protocol

Eight devices. Each copies the tokens and its eight experts' weights in, announces itself on every other device's
barrier semaphore (handing over the block of its landing buffer that device writes), computes the block of results it
owes every device, sends seven of the eight blocks, adds what it receives to its own block, and meets the others at a
second barrier. The shape of the communication does not depend on data.

A device has twenty semaphore cells: the runtime's barrier, the closing barrier, two for the copies in, and one per
peer for sends and for receipts. Every cell is used for one round. A duty is named by the device that pays it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The protocol's ghost state: rounds whose duties are named by devices. -/
abbrev UB : Type := URounds (GSem nD τ sig) (Dev nD)
/-- It beside the pipeline library's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who sends to whom -/

set_option backward.proofsInPublic true in
/-- The device the `r`-th send addresses: `r + 1` places further. -/
def tgt (c : Dev nD) (r : Fin 7) : Dev nD := ⟨(c.val + r.val + 1) % 8, Nat.mod_lt _ (by decide)⟩
set_option backward.proofsInPublic true in
/-- The device whose block the `r`-th receipt waits for: `r + 1` places back. -/
def sdr (c : Dev nD) (r : Fin 7) : Dev nD := ⟨(c.val + 7 - r.val) % 8, Nat.mod_lt _ (by decide)⟩

theorem tgt_ne (c : Dev nD) (r : Fin 7) : tgt c r ≠ c := by revert c r; decide
theorem sdr_ne (c : Dev nD) (r : Fin 7) : sdr c r ≠ c := by revert c r; decide
theorem tgt_inj (c : Dev nD) : Function.Injective (tgt c) := by revert c; decide
theorem sdr_inj (c : Dev nD) : Function.Injective (sdr c) := by revert c; decide
theorem erase_eq_tgt (c : Dev nD) : (Finset.univ.erase c : Finset (Dev nD)) = Finset.univ.map ⟨tgt c, tgt_inj c⟩ := by
  revert c; decide
theorem erase_eq_sdr (c : Dev nD) : (Finset.univ.erase c : Finset (Dev nD)) = Finset.univ.map ⟨sdr c, sdr_inj c⟩ := by
  revert c; decide

/-- A family over the other devices, by the order of sends. -/
theorem bigSep_tgt (c : Dev nD) (Φ : Dev nD → sProp 𝕄) :
    bigSep (Finset.univ.erase c) Φ = bigSep Finset.univ fun r : Fin 7 => Φ (tgt c r) := by
  rw [erase_eq_tgt, bigSep_map]; rfl
/-- A family over the other devices, by the order of receipts. -/
theorem bigSep_sdr (c : Dev nD) (Φ : Dev nD → sProp 𝕄) :
    bigSep (Finset.univ.erase c) Φ = bigSep Finset.univ fun r : Fin 7 => Φ (sdr c r) := by
  rw [erase_eq_sdr, bigSep_map]; rfl

/-! ## The memrefs -/

abbrev riM : Memref sig .tc .vmem S2048x1 .i32 := Memref.whole cc0_stg0_0
abbrev oM : Memref sig .tc .vmem S256x1024 .f32 := Memref.whole cc0_stg1_0
abbrev xM : Memref sig .tc .vmem S2048x512 .f32 := Memref.whole cc0_scratch0
abbrev wM : Memref sig .tc .vmem S8x512x1024 .f32 := Memref.whole cc0_scratch1
abbrev sM : Memref sig .tc .vmem S2048x1024 .bf16 := Memref.whole cc0_scratch2
abbrev rM : Memref sig .tc .vmem S2048x1024 .bf16 := Memref.whole cc0_scratch3

theorem blk_inb (j : Dev nD) : ∀ a, (![256 * j.val, 0] : Fin 2 → ℕ) a + S256x1024.size a ≤ S2048x1024.size a := by
  revert j; decide
/-- The rectangle of rows `256 j … 256 j + 255`. -/
abbrev blkR (j : Dev nD) : Rect S2048x1024 := Rect.unit (s := S2048x1024) ![256 * j.val, 0] S256x1024.size (blk_inb j)
/-- Block `j` of the send buffer and of the landing buffer. -/
abbrev sB (j : Dev nD) : Memref sig .tc .vmem S256x1024 .bf16 := sM.slice (blkR j) (fun _ => rfl)
abbrev rB (j : Dev nD) : Memref sig .tc .vmem S256x1024 .bf16 := rM.slice (blkR j) (fun _ => rfl)

/-! ## The cells -/

/-- The kernel's own cells: the closing barrier and the two copies in; a send and a receive cell per peer. -/
abbrev Ko : Type := Fin 3 ⊕ (Dev nD ⊕ Dev nD)
/-- All cells: the runtime's barrier besides. -/
abbrev Kd : Type := Unit ⊕ Ko

abbrev kbar : Kd := .inl ()
abbrev kfin : Kd := .inr (.inl 0)
abbrev kxs : Kd := .inr (.inl 1)
abbrev kws : Kd := .inr (.inl 2)
abbrev ksnd (j : Dev nD) : Kd := .inr (.inr (.inl j))
abbrev krcv (j : Dev nD) : Kd := .inr (.inr (.inr j))

abbrev barS : Sem sig := (SemArray.scalar (sig.barrier 0 rfl) : Sems sig S_).sem
abbrev finS : Sem sig := (cc0_scoped0 : Sems sig S_).sem

set_option backward.proofsInPublic true in
/-- The DMA semaphore of the send to `j`. -/
def sndS (j : Dev nD) : DmaSem sig := ⟨4 + j.val, by have : j.val < 8 := j.isLt; show _ < 20; omega⟩
set_option backward.proofsInPublic true in
/-- The DMA semaphore of the receipt from `j`. -/
def rcvS (j : Dev nD) : DmaSem sig := ⟨12 + j.val, by have : j.val < 8 := j.isLt; show _ < 20; omega⟩

abbrev osem : Ko → SemLoc sig := fun
  | .inl 0 => .reg finS
  | .inl 1 => .dma (cc0_scratch4 : DmaSems sig S_).sem
  | .inl 2 => .dma (cc0_scratch5 : DmaSems sig S_).sem
  | .inr (.inl j) => .dma (sndS j)
  | .inr (.inr j) => .dma (rcvS j)
abbrev csem : Kd → SemLoc sig := fun
  | .inl _ => .reg barS
  | .inr k => osem k
abbrev kcell (ck : Dev nD × Kd) : GSem nD τ sig := ((ck.1 : Thread nD τ), csem ck.2)

set_option backward.proofsInPublic true in
/-- The cell a semaphore is, read off its number. -/
def kindOf : SemLoc sig → Option Kd
  | .reg s => if s.val = 0 then some kbar else some kfin
  | .dma q => if q.val = 2 then some kxs else if q.val = 3 then some kws
      else if 4 ≤ q.val ∧ q.val < 12 then some (ksnd ⟨(q.val - 4) % 8, Nat.mod_lt _ (by decide)⟩)
      else if 12 ≤ q.val then some (krcv ⟨(q.val - 12) % 8, Nat.mod_lt _ (by decide)⟩)
      else none

theorem kindOf_csem (k : Kd) : kindOf (csem k) = some k := by revert k; decide

theorem csem_injective : Function.Injective csem := fun a b h =>
  Option.some.inj ((kindOf_csem a).symm.trans ((congrArg kindOf h).trans (kindOf_csem b)))

theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem kcell_eq_iff {a b : Dev nD × Kd} : Iff (kcell a = kcell b) (a = b) :=
  ⟨fun h => kcell_injective h, fun h => h ▸ rfl⟩

/-- The credit of one block, of the tokens, of the weights. -/
abbrev N : ℕ := (rB 0).view.dmaCredit
abbrev NX : ℕ := (xM : Memref sig .tc .vmem S2048x512 .f32).view.dmaCredit
abbrev NW : ℕ := (wM : Memref sig .tc .vmem S8x512x1024 .f32).view.dmaCredit
theorem N_pos : 0 < N := View.dmaCredit_pos _ (by decide)
theorem NX_pos : 0 < NX := View.dmaCredit_pos _ (by decide)
theorem NW_pos : 0 < NW := View.dmaCredit_pos _ (by decide)

/-! ## Contents -/

/-- The tokens device `c` holds, and its eight experts' weights. -/
def xC (c : Dev nD) : (cc0_scratch0 : Ref sig .tc).ty.Contents (Elt F) := m ((c : Thread nD τ).loc main_arg0)
def wC (c : Dev nD) : (cc0_scratch1 : Ref sig .tc).ty.Contents (Elt F) := m ((c : Thread nD τ).loc main_arg3)
/-- The routing it holds, as the window stages it. -/
def riC (c : Dev nD) : (cc0_stg0_0 : Ref sig .tc).ty.Contents (Elt F) :=
  (win0_0.blk (0 : Fin 1)).view.read (Elt F) (m ((c : Thread nD τ).loc main_arg2))

theorem w_inb (k : Fin 8) : ∀ a, (![k.val, 0, 0] : Fin 3 → ℕ) a + S1x512x1024.size a ≤ S8x512x1024.size a := by
  revert k; decide
/-- Expert `k` of a device's eight: its weights as loaded. -/
def wRow (w : (cc0_scratch1 : Ref sig .tc).ty.Contents (Elt F)) (k : Fin 8) : Vec F S1x512x1024 .f32 :=
  (wM : Memref sig .tc .vmem S8x512x1024 .f32).view.readAt (Elt F)
    (Rect.unit (s := S8x512x1024) ![k.val, 0, 0] S1x512x1024.size (w_inb k)).toLoadRect w

/-- The device word the body computes with. -/
abbrev devW (c : Dev nD) : BitVec 32 := Scalar.remsi (Scalar.divsi (Dev.word c) 1#32) 8#32
abbrev slotIota : IVec S2048x256 32 := iota .tc S2048x256 32 [1] iota_S2048x256_d1_w32

/-- The results device `c` computes from routing `ri`, tokens `x`, weights `w`: every token's row, for its experts. -/
def sendOf (c : Dev nD) (ri : Vec F S2048x1 .i32) (x : Vec F S2048x512 .f32)
    (w : (cc0_scratch1 : Ref sig .tc).ty.Contents (Elt F)) : (cc0_scratch2 : Ref sig .tc).ty.Contents (Elt F) :=
  k0_pay9 (k0_pay4 (F := F) (devW c) (k0_pay1 ri) (k0_pay2 ri) slotIota k0_pay3 32#32)
    (k0_pay8 (k0_pay5 (devW c) (k0_pay1 ri) (k0_pay2 ri) slotIota k0_pay3 32#32 x)
      (k0_pay6 (devW c) (k0_pay1 ri) (k0_pay2 ri) slotIota k0_pay3 32#32 x (wRow w 0))
      (k0_pay7 (devW c) (k0_pay1 ri) (k0_pay2 ri) slotIota k0_pay3 32#32 x)
      (wRow w 1) (wRow w 2) (wRow w 3) (wRow w 4) (wRow w 5) (wRow w 6) (wRow w 7))

/-- The send buffer of device `c` after its computation. -/
def sbuf (c : Dev nD) : (cc0_scratch2 : Ref sig .tc).ty.Contents (Elt F) := sendOf c (riC m c) (xC m c) (wC m c)

/-- Block `j` of a send buffer's contents. -/
def blkOf (f : (cc0_scratch2 : Ref sig .tc).ty.Contents (Elt F)) (j : Dev nD) : Vec F S256x1024 .bf16 :=
  (sB j).view.read (Elt F) f

/-- The kernel's result on device `c`: its own block and the seven received, added in the order of receipt. -/
def outAt (c : Dev nD) : (cc0_stg1_0 : Ref sig .tc).ty.Contents (Elt F) :=
  k0_pay15 (k0_pay14 (k0_pay13 (k0_pay12 (k0_pay11 (k0_pay10 (blkOf (sbuf m c) c)) (blkOf (sbuf m (sdr c 0)) c)
    (blkOf (sbuf m (sdr c 1)) c)) (blkOf (sbuf m (sdr c 2)) c)) (blkOf (sbuf m (sdr c 3)) c) (blkOf (sbuf m (sdr c 4)) c))
    (blkOf (sbuf m (sdr c 5)) c)) (blkOf (sbuf m (sdr c 6)) c)

/-! ## The schedule -/

/-- A whole buffer of device `c` at contents `f`. -/
abbrev own (c : Dev nD) (b : Ref sig .tc) (f : Buf (Elt F) ((c : Thread nD τ).loc b)) : sProp 𝕄 :=
  ((c : Thread nD τ).loc b) ↦{fullShare} f
/-- Block `j` of device `c`'s send buffer, of its landing buffer. -/
def sPts (c j : Dev nD) (f : Buf (Elt F) ((sB j).view.loc (c : Thread nD τ))) : sProp 𝕄 :=
  (sB j).view.loc (c : Thread nD τ) ↦[(sB j).view.set]{fullShare} f
def rPts (c j : Dev nD) (f : Buf (Elt F) ((rB j).view.loc (c : Thread nD τ))) : sProp 𝕄 :=
  (rB j).view.loc (c : Thread nD τ) ↦[(rB j).view.set]{fullShare} f

/-- What a payment hands over: a barrier signal by `d` to `c` block `c` of `d`'s landing buffer; a copy in the copied
    buffer and its source; a send the block sent, back; a receipt from `j` block `j` of the landing buffer holding what
    `j` computed for `c`. -/
def payK (c d : Dev nD) : Option Kd → sProp 𝕄
  | some (.inl _) => iprop(∃ f, rPts (F := F) d c f)
  | some (.inr (.inl 0)) => iprop(emp)
  | some (.inr (.inl 1)) => iprop(own c cc0_scratch0 (xC m c) ∗ own c main_arg0 (m ((c : Thread nD τ).loc main_arg0)))
  | some (.inr (.inl 2)) => iprop(own c cc0_scratch1 (wC m c) ∗ own c main_arg3 (m ((c : Thread nD τ).loc main_arg3)))
  | some (.inr (.inr (.inl j))) => sPts c j (sbuf m c)
  | some (.inr (.inr (.inr j))) => iprop(∃ f, ⌜(rB j).view.read (Elt F) f = blkOf (sbuf m j) c⌝ ∗ rPts c j f)
  | none => iprop(emp)

set_option backward.proofsInPublic true in
/-- Who pays a cell of device `c`: every other device a barrier; `c` its copies in and its sends; `j` the receipt. -/
def dutK (c : Dev nD) : Option Kd → Finset (Dev nD)
  | some (.inl _) => Finset.univ.erase c
  | some (.inr (.inl 0)) => Finset.univ.erase c
  | some (.inr (.inl 1)) => {c}
  | some (.inr (.inl 2)) => {c}
  | some (.inr (.inr (.inl j))) => if j = c then ∅ else {c}
  | some (.inr (.inr (.inr j))) => if j = c then ∅ else {j}
  | none => ∅

/-- How much one payment is. -/
def amtK : Option Kd → ℕ
  | some (.inl _) => 1
  | some (.inr (.inl 0)) => 1
  | some (.inr (.inl 1)) => NX
  | some (.inr (.inl 2)) => NW
  | some (.inr (.inr _)) => N
  | none => 1

theorem amtK_pos (k : Option Kd) : 0 < amtK k := by
  rcases k with _ | (_ | (k | k))
  · exact Nat.one_pos
  · exact Nat.one_pos
  · fin_cases k
    · exact Nat.one_pos
    · exact NX_pos
    · exact NW_pos
  · exact N_pos

/-- One round, round 0. -/
def Rd : Rounds.Schedule (GSem nD τ sig) (Dev nD) 𝕄 where
  duties g r := if r = 0 ∧ g.1.2 = .tc then dutK g.1.1 (kindOf g.2) else ∅
  unitless _ := False
  amount g _ _ := amtK (kindOf g.2)
  payload g _ d := payK m g.1.1 d (kindOf g.2)
  amount_pos g _ _ _ := amtK_pos _

omit [FloatOps F] in
instance sPts_storable (c j : Dev nD) (f) : BI.Storable (upEmb : UEmb _ 𝕄) (sPts (F := F) c j f) := by
  unfold sPts; infer_instance
omit [FloatOps F] in
instance rPts_storable (c j : Dev nD) (f) : BI.Storable (upEmb : UEmb _ 𝕄) (rPts (F := F) c j f) := by
  unfold rPts; infer_instance

instance payK_storable (c d : Dev nD) (k : Option Kd) : BI.Storable (upEmb : UEmb _ 𝕄) (payK m c d k) := by
  rcases k with _ | (_ | (k | (k | k)))
  · unfold payK; infer_instance
  · unfold payK; infer_instance
  · fin_cases k <;> (unfold payK; infer_instance)
  · unfold payK; infer_instance
  · unfold payK; infer_instance

instance Rd_payload_storable (g : GSem nD τ sig) (r : ℕ) (d : Dev nD) :
    BI.Storable (upEmb : UEmb _ 𝕄) ((Rd m).payload g r d) := payK_storable m _ _ _

section Sched
variable (c : Dev nD) (k : Kd)

theorem duties_at : (Rd m).duties (kcell (c, k)) 0 = dutK c (some k) := by
  dsimp only [Rd]; rw [if_pos ⟨rfl, rfl⟩, kindOf_csem]
theorem duties_later (g : GSem nD τ sig) : ∀ r, 1 ≤ r → (Rd m).duties g r = ∅ :=
  fun r hr => by dsimp only [Rd]; rw [if_neg fun h => by omega]
theorem amount_at (d : Dev nD) : (Rd m).amount (kcell (c, k)) 0 d = amtK (some k) := by
  dsimp only [Rd]; rw [kindOf_csem]
theorem payload_at (d : Dev nD) : (Rd m).payload (kcell (c, k)) 0 d = payK m c d (some k) := by
  dsimp only [Rd]; rw [kindOf_csem]

theorem expect_at : (Rd m).expect (kcell (c, k)) 0 = (dutK c (some k)).card * amtK (some k) := by
  unfold Schedule.expect Schedule.amountOf
  rw [duties_at, Finset.sum_congr rfl fun d _ => amount_at m c k d, Finset.sum_const, smul_eq_mul]

/-- The whole round of a cell, nothing taken. -/
theorem rest_at : bigSep ((Rd m).duties (kcell (c, k)) 0 \ ∅) (fun d => (Rd m).payload (kcell (c, k)) 0 d)
    = bigSep (dutK c (some k)) fun d => payK m c d (some k) := by
  rw [Finset.sdiff_empty, duties_at]
  exact bigSep_congr fun d _ => payload_at m c k d
end Sched

/-! ## What each core owes; the levels -/

/-- Debts listed in the order they are paid, on top of `B`. -/
def owedL (B : CellTallies nD τ sig Unit) : List (CellTallies nD τ sig Unit) → CellTallies nD τ sig Unit
  | [] => B
  | t :: ts => owedL B ts + t

theorem owedL_apply (B : CellTallies nD τ sig Unit) (l : List (CellTallies nD τ sig Unit)) (g : GSem nD τ sig) (u : Unit) :
    owedL B l g u = B g u + (l.map fun t => t g u).sum := by
  induction l with
  | nil => simp [owedL]
  | cons t ts ih =>
    show (owedL B ts + t) g u = _
    rw [Pi.add_apply, Finsupp.add_apply, ih, List.map_cons, List.sum_cons]; omega

theorem owedL_pos {B : CellTallies nD τ sig Unit} {l : List (CellTallies nD τ sig Unit)} {g : GSem nD τ sig} {u : Unit}
    (h : 0 < owedL B l g u) : 0 < B g u ∨ ∃ t ∈ l, 0 < t g u := by
  induction l with
  | nil => exact .inl h
  | cons t ts ih =>
    have h' : 0 < (owedL B ts + t) g u := h
    rw [Pi.add_apply, Finsupp.add_apply] at h'
    rcases Nat.eq_zero_or_pos (owedL B ts g u) with h0 | h0
    · exact .inr ⟨t, List.mem_cons_self, by omega⟩
    · rcases ih h0 with h1 | ⟨t', ht', hp⟩
      · exact .inl h1
      · exact .inr ⟨t', List.mem_cons_of_mem _ ht', hp⟩

/-- A unit towards device `j`'s cell `k`, unless `j` is `c` itself. -/
def oneT (k : Kd) (c j : Dev nD) : CellTallies nD τ sig Unit := if j = c then 0 else tallyAt (kcell (j, k)) () 1
/-- A block towards device `tgt c r`'s receive cell for `c`. -/
def blkT (c : Dev nD) (r : Fin 7) : CellTallies nD τ sig Unit := tallyAt (kcell (tgt c r, krcv c)) () N

abbrev devs : List (Dev nD) := [0, 1, 2, 3, 4, 5, 6, 7]
abbrev offs : List (Fin 7) := [0, 1, 2, 3, 4, 5, 6]

/-- What is owed after the sends; after the first barrier; at the start. -/
def finO (c : Dev nD) : CellTallies nD τ sig Unit := owedL 0 (devs.map (oneT kfin c))
def sndO (c : Dev nD) : CellTallies nD τ sig Unit := owedL (finO c) (offs.map (blkT c))
def O₀ (c : Dev nD) : CellTallies nD τ sig Unit := owedL (sndO c) (devs.map (oneT kbar c))

set_option backward.proofsInPublic true in
def lvK : Option Kd → ℕ
  | some (.inl _) => 1
  | some (.inr (.inl 0)) => 3
  | some (.inr (.inr (.inr _))) => 2
  | _ => 0

def L (g : GSem nD τ sig) : Finset Unit := if g.1.2 = .tc then {()} else ∅
/-- Barrier cells at 1, receive cells at 2, the closing barrier's at 3, everything else at 0. -/
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Kd) (u : Unit) : lv (kcell (c, k)) u = lvK (some k) := by
  unfold lv; rw [kindOf_csem]

theorem oneT_pos {k : Kd} {c j : Dev nD} {g : GSem nD τ sig} {u : Unit} (h : 0 < oneT k c j g u) : g = kcell (j, k) := by
  unfold oneT at h
  split at h
  · exact absurd h (Nat.lt_irrefl 0)
  · rw [tallyAt_apply] at h
    by_contra hn
    rw [if_neg (fun h' => hn h'.1)] at h; exact Nat.lt_irrefl 0 h
theorem blkT_pos {c : Dev nD} {r : Fin 7} {g : GSem nD τ sig} {u : Unit} (h : 0 < blkT c r g u) :
    g = kcell (tgt c r, krcv c) := by
  unfold blkT at h
  rw [tallyAt_apply] at h
  by_contra hn
  rw [if_neg (fun h' => hn h'.1)] at h; exact Nat.lt_irrefl 0 h

/-- `O` owes only to cells of TensorCores above level `n`. -/
def Above (n : ℕ) (O : CellTallies nD τ sig Unit) : Prop :=
  ∀ g u, 0 < O g u → ∃ c k, g = kcell (c, k) ∧ n < lvK (some k)

theorem above_zero (n : ℕ) : Above n 0 := fun g u h => absurd h (Nat.lt_irrefl 0)
theorem above_fin {n : ℕ} (hn : n < 3) (c : Dev nD) : Above n (finO c) := fun g u h => by
  rcases owedL_pos h with h | ⟨t, ht, hp⟩
  · exact absurd h (Nat.lt_irrefl 0)
  · obtain ⟨j, -, rfl⟩ := List.mem_map.mp ht
    exact ⟨j, kfin, oneT_pos hp, hn⟩
theorem above_snd {n : ℕ} (hn : n < 2) (c : Dev nD) : Above n (sndO c) := fun g u h => by
  rcases owedL_pos h with h | ⟨t, ht, hp⟩
  · exact above_fin (by omega) c g u h
  · obtain ⟨r, -, rfl⟩ := List.mem_map.mp ht
    exact ⟨tgt c r, krcv c, blkT_pos hp, hn⟩
theorem above_start (c : Dev nD) : Above 0 (O₀ c) := fun g u h => by
  rcases owedL_pos h with h | ⟨t, ht, hp⟩
  · exact above_snd (by omega) c g u h
  · obtain ⟨j, -, rfl⟩ := List.mem_map.mp ht
    exact ⟨j, kbar, oneT_pos hp, Nat.one_pos⟩

omit [FloatOps F] in
/-- A core may wait on a cell of a level below everything it owes. -/
theorem mayWait (c : Dev nD) (sm : SemLoc sig) (O : CellTallies nD τ sig Unit) (n : ℕ)
    (hn : lvK (kindOf sm) ≤ n) (hO : Above n O) : (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨c', k, rfl, -⟩ := hO g u hg; rw [L_tc]; exact Finset.mem_singleton_self _)
    (fun p hp => by rw [Finset.mem_singleton.mp hp]; exact hn)
    (fun g u hg => by obtain ⟨c', k, rfl, h⟩ := hO g u hg; rw [lv_at]; exact h)

/-! ## The printed indices -/

theorem off1_eq (c : Dev nD) (r : Fin 7) : k0_off1 c (BitVec.ofNat 32 (1 + r.val)) = ![(tgt c r).val] := by
  revert c r; decide +kernel
theorem off4_eq (c : Dev nD) (r : Fin 7) : k0_off4 c (BitVec.ofNat 32 (1 + r.val)) = ![256 * (tgt c r).val, 0] := by
  revert c r; decide +kernel
theorem off6_eq (c : Dev nD) (r : Fin 7) : k0_off6 c (BitVec.ofNat 32 (1 + r.val)) = ![(sdr c r).val] := by
  revert c r; decide +kernel
theorem off7_eq (c : Dev nD) (r : Fin 7) : k0_off7 c (BitVec.ofNat 32 (1 + r.val)) = ![256 * (sdr c r).val, 0] := by
  revert c r; decide +kernel
theorem off8_eq (c : Dev nD) (r : Fin 7) : k0_off8 c (BitVec.ofNat 32 (1 + r.val)) = ![256 * (sdr c r).val, 0] := by
  revert c r; decide +kernel

/-- A slot of the send semaphores, of the receive semaphores. -/
theorem sndS_eq (j : Dev nD) (off : Fin 1 → ℕ) (hi : ∀ a, off a + S1.size a ≤ S8.size a) (h : off = ![j.val]) :
    (((cc0_scratch6 : DmaSems sig S8).slice (Rect.unit (s := S8) off S1.size hi)).squeeze S_ squeezes_S1_S_).sem = sndS j := by
  subst h; revert j; decide +kernel
theorem rcvS_eq (j : Dev nD) (off : Fin 1 → ℕ) (hi : ∀ a, off a + S1.size a ≤ S8.size a) (h : off = ![j.val]) :
    (((cc0_scratch7 : DmaSems sig S8).slice (Rect.unit (s := S8) off S1.size hi)).squeeze S_ squeezes_S1_S_).sem = rcvS j := by
  subst h; revert j; decide +kernel

end Cert.MoeRun

end
-- ==== Proof.Steps.lean ====
/-
# One rule per communication step of the body

Each is the rounds library's rule at this protocol's cells, taking the cells' records as one persistent resource and
what the core owes with the record of its past waits left open.
-/
module

public import proofs.«01_k».proof.Proof.Protocol

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a stretch of the body on core `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What core `c` owes, whatever waits it has made. -/
def ow (c : Dev nD) (O : CellTallies nD τ sig Unit) : sProp 𝕄 := iprop(∃ W, owes (c : Thread nD τ) O W)

/-- Every cell's invariant, and that every cell has reached round 0. -/
def records (K : Dev nD × Kd → ℕ) : sProp 𝕄 :=
  iprop((bigSep Finset.univ fun ck : Dev nD × Kd => cellInv ER (Rd m) (K ck) (kcell ck))
    ∗ bigSep Finset.univ fun ck : Dev nD × Kd => reached ER (kcell ck) 0)

instance records_persistent (K : Dev nD × Kd → ℕ) : BI.Persistent (records m K) := by unfold records; infer_instance

theorem inv_all (K : Dev nD × Kd → ℕ) (ck : Dev nD × Kd) :
    (bigSep Finset.univ fun ck : Dev nD × Kd => (cellInv ER (Rd m) (K ck) (kcell ck) : sProp 𝕄)) ⊢ cellInv ER (Rd m) (K ck) (kcell ck) :=
  bigSep_elim (Finset.mem_univ ck)
theorem reached_all (ck : Dev nD × Kd) :
    (bigSep Finset.univ fun ck : Dev nD × Kd => (reached ER (kcell ck) 0 : sProp 𝕄)) ⊢ reached ER (kcell ck) 0 :=
  bigSep_elim (Finset.mem_univ ck)

theorem rec_inv (K : Dev nD × Kd → ℕ) (ck : Dev nD × Kd) : records m K ⊢ cellInv ER (Rd m) (K ck) (kcell ck) := by
  unfold records
  iintro ⟨H, -⟩
  iapply (inv_all m K ck); iexact H
theorem rec_reached (K : Dev nD × Kd → ℕ) (ck : Dev nD × Kd) : records m K ⊢ reached ER (kcell ck) 0 := by
  unfold records
  iintro ⟨-, H⟩
  iapply (reached_all ck); iexact H

variable (K : Dev nD × Kd → ℕ)

/-- A signal of one unit to device `j`'s barrier cell `k`. -/
theorem wp_sig (c n j : Dev nD) (hn : n = j) (hj : j ≠ c) (k : Kd) {sem : Sem sig} (hs : csem k = .reg sem)
    (hd : c ∈ dutK j (some k)) (ha : amtK (some k) = 1) {k' : ℕ} (hk' : k' = 1) {α : Type} {Q : α → sProp 𝕄}
    {κ : PUnit → Prog (TpuEff nD τ sig (Elt F) Λ₀ .tc) α}
    (B : CellTallies nD τ sig Unit) (ts : List (CellTallies nD τ sig Unit)) :
    iprop(records m K ∗ ow c (owedL B (oneT k c j :: ts)) ∗ dutyTok ER (kcell (j, k)) 0 c ∗ payK m j c (some k))
      ⊢ iprop((ow c (owedL B ts) -∗ wpc c (κ ⟨⟩) Q)
          -∗ wpc c (.op (.semSignal ((n, Proc.tc) : Thread nD τ) sem k') κ) Q) := by
  subst hn; subst hk'
  unfold ow
  iintro ⟨#HR, ⟨%W, HO⟩, Ht, Hp⟩ Hk
  have hO : owedL B (oneT k c n :: ts) = owedL B ts + tallyAt ((n : Thread nD τ), .reg sem) () 1 := by
    show owedL B ts + oneT k c n = _
    unfold oneT; rw [if_neg hj, ← hs]
  have hcell : kcell (n, k) = ((n : Thread nD τ), .reg sem) := by show (_, csem k) = _; rw [hs]
  have h1 := duties_at m n k
  have h2 := (amount_at m n k c).trans ha
  have h3 := payload_at m n k c
  rw [hcell] at h1 h2 h3
  iapply (Rounds.wp_signal 𝒱₀ ER (Rd m) (c : Thread nD τ) none (dst := (n : Thread nD τ)) (κ := K (n, k)) (r := 0)
      (d := c) (by rw [h1]; exact hd) h2 () (owedL B ts) hO (W := W)) $$ [HO Ht Hp]
  · isplitr; · rw [← hcell]; iapply (rec_inv m K (n, k)); iexact HR
    isplitl [HO]; · iexact HO
    isplitl [Ht]; · rw [← hcell]; iexact Ht
    isplitl [Hp]; · rw [h3]; iexact Hp
    rw [← hcell]; iapply (rec_reached m K (n, k)); iexact HR
  iintro HO
  iapply Hk
  iexists W; iexact HO

/-- A signal under its printed condition, then the rest. -/
def guardSig {α : Type} (P : Prop) [Decidable P] (dv : P → Dev nD) (sem : Sem sig)
    (k : Prog (TpuEff nD τ sig (Elt F) Λ₀ .tc) α) : Prog (TpuEff nD τ sig (Elt F) Λ₀ .tc) α :=
  if h : P then semSignalWord (dv h : Dev nD) sem 1#32 >>= fun _ => k else k

/-- The signal to device `j` skipped by `j` itself: whatever would be handed over (`X`) stays with `j`. -/
theorem wp_guard (c j : Dev nD) {P : Prop} [Decidable P] (hP : P ↔ j ≠ c) {dv : P → Dev nD} (hdv : ∀ h, dv h = j)
    (k : Kd) {sem : Sem sig} (hs : csem k = .reg sem) (hd : j ≠ c → c ∈ dutK j (some k)) (ha : amtK (some k) = 1)
    {α : Type} {Q : α → sProp 𝕄} {κ : Prog (TpuEff nD τ sig (Elt F) Λ₀ .tc) α} (X : sProp 𝕄) (hX : payK m j c (some k) = X)
    (B : CellTallies nD τ sig Unit) (ts : List (CellTallies nD τ sig Unit)) :
    iprop(records m K ∗ ow c (owedL B (oneT k c j :: ts)) ∗ dutyTok ER (kcell (j, k)) 0 c ∗ X)
      ⊢ iprop(((ow c (owedL B ts) ∗ (if j = c then X else iprop(emp))) -∗ wpc c κ Q) -∗ wpc c (guardSig P dv sem κ) Q) := by
  unfold guardSig
  by_cases hp : P
  · have hj := hP.mp hp
    rw [dif_pos hp, if_neg hj]
    iintro ⟨#HR, HO, Ht, Hp⟩ Hk
    simp only [semSignalWord, Prog.lift, Prog.bind_op, Prog.bind_ret]
    iapply (wp_sig m K c (dv hp) j (hdv hp) hj k hs (hd hj) ha (by decide) B ts) $$ [HO Ht Hp]
    · isplitr; · iexact HR
      isplitl [HO]; · iexact HO
      isplitl [Ht]; · iexact Ht
      rw [hX]; iexact Hp
    iintro HO
    iapply Hk
    isplitl; · iexact HO
    iempintro
  · have hj : j = c := by by_contra h; exact hp (hP.mpr h)
    rw [dif_neg hp, if_pos hj]
    have hO : owedL B (oneT k c j :: ts) = owedL B ts := by
      show owedL B ts + oneT k c j = _
      unfold oneT; rw [if_pos hj, add_zero]
    rw [hO]
    iintro ⟨-, HO, -, Hp⟩ Hk
    iapply Hk
    isplitl [HO]; · iexact HO
    iexact Hp

/-- A wait for the whole round of core `c`'s cell `k`: what its payers hand over. -/
theorem wp_wait (c : Dev nD) (k : Kd) {w : TpuEff nD τ sig (Elt F) Λ₀ .tc PUnit} {sm : SemLoc sig} (hs : csem k = sm) {k' : ℕ}
    (hw : ∀ Kt : PUnit → sProp 𝕄, wpE (defs₀ (F := F)) 𝒱₀ (c : Thread nD τ) none Set.univ w Kt
      = waitSpec (c : Thread nD τ) Set.univ sm k' Kt)
    (hk : k' = (dutK c (some k)).card * amtK (some k))
    (O : CellTallies nD τ sig Unit) (n : ℕ) (hn : lvK (some k) ≤ n) (hO : Above n O)
    {α : Type} {Q : α → sProp 𝕄} {κ : PUnit → Prog (TpuEff nD τ sig (Elt F) Λ₀ .tc) α} :
    iprop(records m K ∗ levAts L lv ∗ cred (tallyAt (kcell (c, k)) () k') ∗ ow c O ∗ atPos ER (kcell (c, k)) 0 ∅ 0)
      ⊢ iprop(((ow c O ∗ atPos ER (kcell (c, k)) 1 ∅ 0 ∗ bigSep (dutK c (some k)) fun d => payK m c d (some k)) -∗ wpc c (κ ⟨⟩) Q)
          -∗ wpc c (.op w κ) Q) := by
  subst hs
  unfold ow
  iintro ⟨#HR, #HL, Hc, ⟨%W, HO⟩, Hat⟩ Hk
  iapply (Rounds.wp_wait_rest_token 𝒱₀ ER (Rd m) (c : Thread nD τ) none (κ := K (c, k)) (sm := csem k)
      hw (Set.mem_univ _) () (O := O) (W := W) (R := 0) (m := 0) (T := ∅)
      (by rw [Nat.zero_add, expect_at m c k, hk])) $$ [Hc HO Hat]
  · isplitr; · iapply (rec_inv m K (c, k)); iexact HR
    isplitl [Hc]; · iexact Hc
    isplitl [HO]; · iexact HO
    isplitr
    · iapply (mayWait (F := F) c (csem k) O n (by rw [kindOf_csem]; exact hn) hO); iexact HL
    iexact Hat
  iintro ⟨HO, Hat, -, Hp⟩
  iapply Hk
  isplitl [HO]; · iexists _; iexact HO
  isplitl [Hat]; · iexact Hat
  ihave Hp := (Entails.of_eq (rest_at m c k)) $$ Hp
  iexact Hp

/-- A slice of rows `256 j …` is block `j`. -/
theorem sB_eq (j : Dev nD) (off : Fin 2 → ℕ) (hi : ∀ a, off a + S256x1024.size a ≤ S2048x1024.size a) (h : off = ![256 * j.val, 0]) :
    sM.slice (Rect.unit (s := S2048x1024) off S256x1024.size hi) (fun _ => rfl) = sB j := by subst h; rfl
theorem rB_eq (j : Dev nD) (off : Fin 2 → ℕ) (hi : ∀ a, off a + S256x1024.size a ≤ S2048x1024.size a) (h : off = ![256 * j.val, 0]) :
    rM.slice (Rect.unit (s := S2048x1024) off S256x1024.size hi) (fun _ => rfl) = rB j := by subst h; rfl

/-- What the send to `j` starts from: `j`'s block for `c`, the two duties' tokens, the block to send. -/
def sendRes (c j : Dev nD) : sProp 𝕄 :=
  iprop((∃ f, rPts (F := F) j c f) ∗ dutyTok ER (kcell (c, ksnd j)) 0 c ∗ dutyTok ER (kcell (j, krcv c)) 0 c ∗ sPts c j (sbuf m c))

theorem mem_duty_snd {c j : Dev nD} (h : j ≠ c) : c ∈ dutK c (some (ksnd j)) := by
  show c ∈ (if j = c then ∅ else {c} : Finset (Dev nD)); rw [if_neg h]; exact Finset.mem_singleton_self _
theorem mem_duty_rcv {c j : Dev nD} (h : j ≠ c) : c ∈ dutK j (some (krcv c)) := by
  show c ∈ (if c = j then ∅ else {c} : Finset (Dev nD)); rw [if_neg h.symm]; exact Finset.mem_singleton_self _

/-- The `r`-th send: it pays the receiver its block's credit and gets the credit of its own send cell. -/
theorem wp_send_blk (c : Dev nD) (r : Fin 7) (n : Dev nD) (hn : n = tgt c r)
    {src dst : Memref sig .tc .vmem S256x1024 .bf16} (hsrc : src = sB (tgt c r)) (hdst : dst = rB c)
    {sS sem : DmaSem sig} (hsS : sS = sndS (tgt c r)) (hsem : sem = rcvS c)
    {hsc : (dst : Memref sig (Dev.tc n : Thread nD τ).2.kind .vmem S256x1024 .bf16).view.ref.isScScratch = false}
    {h1 : src.view.WordExact} {h2 : dst.view.WordExact}
    {h3 : DmaTarget.Typed .vmem (.dma sem) (.remote (Dev.tc n : Thread nD τ) dst (.dma sS) hsc)}
    {α : Type} {Q : α → sProp 𝕄} {κ : PUnit → Prog (TpuEff nD τ sig (Elt F) Λ₀ .tc) α}
    (B : CellTallies nD τ sig Unit) (ts : List (CellTallies nD τ sig Unit)) :
    iprop(records m K ∗ ow c (owedL B (blkT c r :: ts)) ∗ sendRes m c (tgt c r))
      ⊢ iprop(((cred (tallyAt (kcell (c, ksnd (tgt c r))) () N) ∗ ow c (owedL B ts)) -∗ wpc c (κ ⟨⟩) Q)
          -∗ wpc c (.op (.enqueueDma src (.remote (Dev.tc n : Thread nD τ) dst (.dma sS) hsc) (.dma sem) h1 h2 h3) κ) Q) := by
  subst hn hsrc hdst hsS hsem
  unfold ow sendRes sPts rPts
  iintro ⟨#HR, ⟨%W, HO⟩, ⟨%f, Hr⟩, Ht1, Ht2, Hs⟩ Hk
  iapply (Rounds.wp_send_pointsTo 𝒱₀ ER (Rd m) (c : Thread nD τ) none (κ₁ := K (c, ksnd (tgt c r))) (κ₂ := K (tgt c r, krcv c))
    (sS := csem (ksnd (tgt c r))) (sem := csem (krcv c))
    (r₁ := 0) (r₂ := 0) (d₁ := c) (d₂ := c) (fd := f)
    (by rw [duties_at m c (ksnd (tgt c r))]; exact mem_duty_snd (tgt_ne c r))
    (by rw [duties_at m (tgt c r) (krcv c)]; exact mem_duty_rcv (tgt_ne c r))
    () () N rfl (amount_at m c (ksnd (tgt c r)) c) (amount_at m (tgt c r) (krcv c) c) (owedL B ts) rfl (W := W)
    (by rw [payload_at m c (ksnd (tgt c r)) c]; exact BI.Entails.refl _)
    (by
      rw [payload_at m (tgt c r) (krcv c) c]
      unfold payK rPts
      iintro H
      iexists ((rB c).view.write (Elt F) f ((sB (tgt c r)).view.read (Elt F) (sbuf m c)) Finset.univ)
      isplitr
      · ipureintro; exact View.read_write_univ _ _
      · iexact H)) $$ [HO Hr Ht1 Ht2 Hs]
  · isplitr; · iapply (rec_inv m K (c, ksnd (tgt c r))); iexact HR
    isplitr; · iapply (rec_inv m K (tgt c r, krcv c)); iexact HR
    isplitl [Hs]; · iexact Hs
    isplitl [Hr]; · iexact Hr
    isplitl [HO]; · iexact HO
    isplitl [Ht1]; · iexact Ht1
    isplitr; · iapply (rec_reached m K (c, ksnd (tgt c r))); iexact HR
    isplitl [Ht2]; · iexact Ht2
    iapply (rec_reached m K (tgt c r, krcv c)); iexact HR
  iintro ⟨Hc, HO⟩
  iapply Hk
  isplitl [Hc]; · iexact Hc
  iexists W; iexact HO

/-- A load of block `j` of the landing buffer (the send buffer). -/
theorem wp_load_r (c j : Dev nD) {off : Fin 2 → ℕ} (hi : ∀ a, off a + S256x1024.size a ≤ S2048x1024.size a) (h : off = ![256 * j.val, 0])
    {hl : rM.view.LoadsAt (Rect.unit (s := S2048x1024) off S256x1024.size hi).toLoadRect}
    {α : Type} {Q : α → sProp 𝕄} {κ : Vec F S256x1024 .bf16 → Prog (TpuEff nD τ sig (Elt F) Λ₀ .tc) α} (f) :
    rPts (F := F) c j f ⊢ iprop((rPts c j f -∗ wpc c (κ ((rB j).view.read (Elt F) f)) Q)
      -∗ wpc c (.op (.load rM (Rect.unit (s := S2048x1024) off S256x1024.size hi).toLoadRect hl) κ) Q) := by
  subst h
  exact wp_load_rect 𝒱₀ (c : Thread nD τ) none Set.univ (m := rM) (r := blkR j) (Finset.Subset.refl _)
theorem wp_load_s (c j : Dev nD) {off : Fin 2 → ℕ} (hi : ∀ a, off a + S256x1024.size a ≤ S2048x1024.size a) (h : off = ![256 * j.val, 0])
    {hl : sM.view.LoadsAt (Rect.unit (s := S2048x1024) off S256x1024.size hi).toLoadRect}
    {α : Type} {Q : α → sProp 𝕄} {κ : Vec F S256x1024 .bf16 → Prog (TpuEff nD τ sig (Elt F) Λ₀ .tc) α} (f) :
    sPts (F := F) c j f ⊢ iprop((sPts c j f -∗ wpc c (κ (blkOf f j)) Q)
      -∗ wpc c (.op (.load sM (Rect.unit (s := S2048x1024) off S256x1024.size hi).toLoadRect hl) κ) Q) := by
  subst h
  exact wp_load_rect 𝒱₀ (c : Thread nD τ) none Set.univ (m := sM) (r := blkR j) (Finset.Subset.refl _)

/-- What the `r`-th receipt starts from and what it brings. -/
def recvRes (c j : Dev nD) : sProp 𝕄 :=
  iprop(cred (tallyAt (kcell (c, krcv j)) () N) ∗ atPos ER (kcell (c, krcv j)) 0 ∅ 0)
def gotRes (c j : Dev nD) : sProp 𝕄 :=
  iprop((∃ f, rPts (F := F) c j f) ∗ atPos ER (kcell (c, krcv j)) 1 ∅ 0)

/-- The wait for the block from `j`, with the load that follows it. -/
theorem wp_recv_blk (c j : Dev nD) (hj : j ≠ c) {sem : DmaSem sig} (hsem : sem = rcvS j)
    {src dst : Memref sig .tc .vmem S256x1024 .bf16} (hdst : dst = rB j)
    {h1 : src.view.WordExact} {h2 : dst.view.WordExact}
    {off : Fin 2 → ℕ} (hi : ∀ a, off a + S256x1024.size a ≤ S2048x1024.size a) (h : off = ![256 * j.val, 0])
    {hl : rM.view.LoadsAt (Rect.unit (s := S2048x1024) off S256x1024.size hi).toLoadRect}
    {α : Type} {Q : α → sProp 𝕄} {κ : Vec F S256x1024 .bf16 → Prog (TpuEff nD τ sig (Elt F) Λ₀ .tc) α} :
    iprop(records m K ∗ levAts L lv ∗ ow c (finO c) ∗ recvRes (F := F) c j)
      ⊢ iprop(((ow c (finO c) ∗ gotRes (F := F) c j) -∗ wpc c (κ (blkOf (sbuf m j) c)) Q)
          -∗ wpc c (.op (.waitDma2 sem src dst h1 h2)
              (fun _ => .op (.load rM (Rect.unit (s := S2048x1024) off S256x1024.size hi).toLoadRect hl) κ)) Q) := by
  subst hsem hdst
  unfold recvRes gotRes
  iintro ⟨#HR, #HL, HO, Hc, Hat⟩ Hk
  have hcard : dutK c (some (krcv j)) = {j} := by
    show (if j = c then ∅ else {j} : Finset (Dev nD)) = _; rw [if_neg hj]
  iapply (wp_wait m K c (krcv j) (sm := .dma (rcvS j)) rfl (k' := (rB j).view.dmaCredit)
    (wpE_waitDma2_eq 𝒱₀ (c : Thread nD τ) none Set.univ) (by rw [hcard, Finset.card_singleton, Nat.one_mul]; rfl)
    (finO c) 2 (Nat.le_refl _) (above_fin (by omega) c)) $$ [Hc HO Hat]
  · isplitr; · iexact HR
    isplitr; · iexact HL
    isplitl [Hc]; · iexact Hc
    isplitl [HO]; · iexact HO
    iexact Hat
  rw [hcard, bigSep_singleton]
  unfold payK
  iintro ⟨HO, Hat, ⟨%f, %hf, Hr⟩⟩
  iapply (wp_load_r c j hi h f) $$ Hr
  iintro Hr
  rw [hf]
  iapply Hk
  isplitl [HO]; · iexact HO
  isplitl [Hr]; · iexists f; iexact Hr
  iexact Hat

/-- What the wait for the send to `j` starts from and what it brings back. -/
def sentRes (c j : Dev nD) : sProp 𝕄 :=
  iprop(cred (tallyAt (kcell (c, ksnd j)) () N) ∗ atPos ER (kcell (c, ksnd j)) 0 ∅ 0)
def backRes (c j : Dev nD) : sProp 𝕄 :=
  iprop(sPts c j (sbuf m c) ∗ atPos ER (kcell (c, ksnd j)) 1 ∅ 0)

theorem wp_sent_blk (c j : Dev nD) (hj : j ≠ c) {sem : DmaSem sig} (hsem : sem = sndS j)
    {src dst : Memref sig .tc .vmem S256x1024 .bf16} (hdst : dst.view.dmaCredit = N)
    {h1 : src.view.WordExact} {h2 : dst.view.WordExact}
    {α : Type} {Q : α → sProp 𝕄} {κ : PUnit → Prog (TpuEff nD τ sig (Elt F) Λ₀ .tc) α} :
    iprop(records m K ∗ levAts L lv ∗ ow c (finO c) ∗ sentRes (F := F) c j)
      ⊢ iprop(((ow c (finO c) ∗ backRes m c j) -∗ wpc c (κ ⟨⟩) Q)
          -∗ wpc c (.op (.waitDma2 sem src dst h1 h2) κ) Q) := by
  subst hsem
  unfold sentRes backRes
  iintro ⟨#HR, #HL, HO, Hc, Hat⟩ Hk
  have hcard : dutK c (some (ksnd j)) = {c} := by
    show (if j = c then ∅ else {c} : Finset (Dev nD)) = _; rw [if_neg hj]
  rw [← hdst]
  iapply (wp_wait m K c (ksnd j) (sm := .dma (sndS j)) rfl (k' := dst.view.dmaCredit)
    (wpE_waitDma2_eq 𝒱₀ (c : Thread nD τ) none Set.univ)
    (by rw [hcard, Finset.card_singleton, Nat.one_mul, hdst]; rfl)
    (finO c) 0 (Nat.le_refl _) (above_fin (by omega) c)) $$ [Hc HO Hat]
  · isplitr; · iexact HR
    isplitr; · iexact HL
    isplitl [Hc]; · iexact Hc
    isplitl [HO]; · iexact HO
    iexact Hat
  rw [hcard, bigSep_singleton]
  unfold payK
  iintro ⟨HO, Hat, Hs⟩
  iapply Hk
  isplitl [HO]; · iexact HO
  isplitl [Hs]; · iexact Hs
  iexact Hat

end Cert.MoeRun

end
-- ==== Proof.Part1.lean ====
/-
# The body's first stretches: the copies in, the first barrier, the blocks
-/
module

public import proofs.«01_k».proof.Proof.Steps

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## The buffers in blocks -/

theorem blk_disjoint (b b' : Dev nD) (h : b ≠ b') : Disjoint (blkR b).set (blkR b').set :=
  Ring.lead_disjoint (s := S2048x1024) (NB := 8) (0 : Fin 2) 256 (fun b => ![256 * b.val, 0]) S256x1024.size blk_inb
    (fun _ => rfl) rfl b b' h
theorem blk_cover : Finset.univ.biUnion (fun b : Dev nD => (blkR b).set) = Finset.univ :=
  Ring.lead_cover (s := S2048x1024) (NB := 8) (0 : Fin 2) 256 (fun b => ![256 * b.val, 0]) S256x1024.size blk_inb
    (fun _ => rfl) (fun _ a ha => by fin_cases a; · exact absurd rfl ha
                                     · rfl) rfl (fun a ha => by fin_cases a; · exact absurd rfl ha
                                                                · rfl) rfl

theorem sB_set (j : Dev nD) : (sB j).view.set = (blkR j).set := View.set_slice_whole _ _
theorem rB_set (j : Dev nD) : (rB j).view.set = (blkR j).set := View.set_slice_whole _ _

/-- The send buffer is its eight blocks. -/
theorem s_blocks (c : Dev nD) (f : Buf (Elt F) ((c : Thread nD τ).loc cc0_scratch2)) :
    own c cc0_scratch2 f = bigSep Finset.univ fun j : Dev nD => sPts (F := F) c j f := by
  rw [own, Ring.pointsTo_blocks (fun j : Dev nD => (blkR j).set) (fun b b' h => blk_disjoint b b' h) blk_cover f]
  exact bigSep_congr fun j _ => by unfold sPts; rw [sB_set]
/-- The landing buffer is its eight blocks. -/
theorem r_blocks (c : Dev nD) (f : Buf (Elt F) ((c : Thread nD τ).loc cc0_scratch3)) :
    own c cc0_scratch3 f = bigSep Finset.univ fun j : Dev nD => rPts (F := F) c j f := by
  rw [own, Ring.pointsTo_blocks (fun j : Dev nD => (blkR j).set) (fun b b' h => blk_disjoint b b' h) blk_cover f]
  exact bigSep_congr fun j _ => by unfold rPts; rw [rB_set]
/-- The landing buffer's blocks, each at some contents, are the landing buffer at some contents. -/
theorem r_join (c : Dev nD) (f₀ : Buf (Elt F) ((c : Thread nD τ).loc cc0_scratch3)) :
    (bigSep Finset.univ fun j : Dev nD => iprop(∃ f, rPts (F := F) c j f)) ⊢ iprop(∃ g, own (F := F) c cc0_scratch3 g) := by
  refine Entails.trans (Entails.of_eq ?_)
    (Ring.pointsTo_blocks_join_exists (fun j : Dev nD => (blkR j).set) (fun b b' h => blk_disjoint b b' h) blk_cover f₀)
  exact bigSep_congr fun j _ => by
    unfold rPts
    rw [rB_set]

/-- A family over the eight devices, spelled. -/
theorem bigSep_dev (Φ : Dev nD → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL devs (by decide) (by decide) Φ
/-- A family over the seven transfers, spelled. -/
theorem bigSep_off (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL offs (by decide) (by decide) Φ

/-- What the skipped signal leaves is what is left of all eight. -/
theorem left_own (c : Dev nD) (X : Dev nD → sProp 𝕄) :
    (bigSep Finset.univ fun j : Dev nD => (if j = c then X j else iprop(emp))) ⊢ X c := by
  refine (bigSep_elim (Φ := fun j : Dev nD => (if j = c then X j else iprop(emp) : sProp 𝕄)) (Finset.mem_univ c)).trans ?_
  rw [if_pos rfl]; exact BI.Entails.refl _

theorem card_others (c : Dev nD) : (dutK c (some kbar)).card = 7 := by
  show (Finset.univ.erase c).card = 7
  rw [Finset.card_erase_of_mem (Finset.mem_univ c)]; rfl

/-- A stretch that is over. -/
theorem wpc_ret (c : Dev nD) {α : Type} {Q : α → sProp 𝕄} {a : α} : Q a ⊢ wpc c (.ret a) Q := by
  unfold wpc
  rw [wp_ret]
  iintro H
  imodintro
  iexact H

/-! ## The copies in -/

/-- A copy of the tokens, of the weights, into the core's memory. -/
theorem wp_copy_x (c : Dev nD) {α : Type} {Q : α → sProp 𝕄} {κ : PUnit → Prog (TpuEff nD τ sig (Elt F) Λ₀ .tc) α}
    {h1 : (Memref.whole main_arg0 : Memref sig .tc .hbm S2048x512 .f32).view.WordExact} {h2 : xM.view.WordExact}
    {h3 : DmaTarget.Typed (nD := nD) .hbm (.dma (cc0_scratch4 : DmaSems sig S_).sem) (.here (p := .tc) xM)} (f) :
    iprop(records m K ∗ own c main_arg0 (m ((c : Thread nD τ).loc main_arg0)) ∗ own (F := F) c cc0_scratch0 f
        ∗ dutyTok ER (kcell (c, kxs)) 0 c)
      ⊢ iprop((cred (tallyAt (kcell (c, kxs)) () NX) -∗ wpc c (κ ⟨⟩) Q)
        -∗ wpc c (.op (.enqueueDma (Memref.whole main_arg0 : Memref sig .tc .hbm S2048x512 .f32) (.here xM) (.dma (cc0_scratch4 : DmaSems sig S_).sem) h1 h2 h3) κ) Q) := by
  iintro ⟨#HR, Hs, Hd, Ht⟩ Hk
  iapply (Rounds.wp_copy_pointsTo 𝒱₀ ER (Rd m) (c : Thread nD τ) none (κ := K (c, kxs)) (r := 0) (d := c)
    (sem := csem kxs) (fs := m ((c : Thread nD τ).loc main_arg0)) (fd := f)
    (by rw [duties_at m c kxs]; exact Finset.mem_singleton_self _) () NX rfl (amount_at m c kxs c)
    (by
      rw [payload_at m c kxs c]
      unfold payK xC
      rw [View.set_whole, View.set_whole, View.read_whole, View.write_whole_univ])) $$ [Hs Hd Ht]
  · isplitr; · iapply (rec_inv m K (c, kxs)); iexact HR
    rw [View.set_whole, View.set_whole]
    isplitl [Hs]; · iexact Hs
    isplitl [Hd]; · iexact Hd
    isplitl [Ht]; · iexact Ht
    iapply (rec_reached m K (c, kxs)); iexact HR
  iintro Hc
  iapply Hk; iexact Hc
theorem wp_copy_w (c : Dev nD) {α : Type} {Q : α → sProp 𝕄} {κ : PUnit → Prog (TpuEff nD τ sig (Elt F) Λ₀ .tc) α}
    {h1 : (Memref.whole main_arg3 : Memref sig .tc .hbm S8x512x1024 .f32).view.WordExact} {h2 : wM.view.WordExact}
    {h3 : DmaTarget.Typed (nD := nD) .hbm (.dma (cc0_scratch5 : DmaSems sig S_).sem) (.here (p := .tc) wM)} (f) :
    iprop(records m K ∗ own c main_arg3 (m ((c : Thread nD τ).loc main_arg3)) ∗ own (F := F) c cc0_scratch1 f
        ∗ dutyTok ER (kcell (c, kws)) 0 c)
      ⊢ iprop((cred (tallyAt (kcell (c, kws)) () NW) -∗ wpc c (κ ⟨⟩) Q)
        -∗ wpc c (.op (.enqueueDma (Memref.whole main_arg3 : Memref sig .tc .hbm S8x512x1024 .f32) (.here wM) (.dma (cc0_scratch5 : DmaSems sig S_).sem) h1 h2 h3) κ) Q) := by
  iintro ⟨#HR, Hs, Hd, Ht⟩ Hk
  iapply (Rounds.wp_copy_pointsTo 𝒱₀ ER (Rd m) (c : Thread nD τ) none (κ := K (c, kws)) (r := 0) (d := c)
    (sem := csem kws) (fs := m ((c : Thread nD τ).loc main_arg3)) (fd := f)
    (by rw [duties_at m c kws]; exact Finset.mem_singleton_self _) () NW rfl (amount_at m c kws c)
    (by
      rw [payload_at m c kws c]
      unfold payK wC
      rw [View.set_whole, View.set_whole, View.read_whole, View.write_whole_univ])) $$ [Hs Hd Ht]
  · isplitr; · iapply (rec_inv m K (c, kws)); iexact HR
    rw [View.set_whole, View.set_whole]
    isplitl [Hs]; · iexact Hs
    isplitl [Hd]; · iexact Hd
    isplitl [Ht]; · iexact Ht
    iapply (rec_reached m K (c, kws)); iexact HR
  iintro Hc
  iapply Hk; iexact Hc

/-! ## The conditions and the addressed devices -/

theorem cond1 (c : Dev nD) : (k0_cond1 c = 1#1) ↔ ((0 : Dev nD) ≠ c) := by revert c; decide +kernel
theorem cond2 (c : Dev nD) : (k0_cond2 c = 1#1) ↔ ((1 : Dev nD) ≠ c) := by revert c; decide +kernel
theorem cond3 (c : Dev nD) : (k0_cond3 c = 1#1) ↔ ((2 : Dev nD) ≠ c) := by revert c; decide +kernel
theorem cond4 (c : Dev nD) : (k0_cond4 c = 1#1) ↔ ((3 : Dev nD) ≠ c) := by revert c; decide +kernel
theorem cond5 (c : Dev nD) : (k0_cond5 c = 1#1) ↔ ((4 : Dev nD) ≠ c) := by revert c; decide +kernel
theorem cond6 (c : Dev nD) : (k0_cond6 c = 1#1) ↔ ((5 : Dev nD) ≠ c) := by revert c; decide +kernel
theorem cond7 (c : Dev nD) : (k0_cond7 c = 1#1) ↔ ((6 : Dev nD) ≠ c) := by revert c; decide +kernel
theorem cond8 (c : Dev nD) : (k0_cond8 c = 1#1) ↔ ((7 : Dev nD) ≠ c) := by revert c; decide +kernel
theorem cond9 (c : Dev nD) : (k0_cond9 c = 1#1) ↔ ((0 : Dev nD) ≠ c) := by revert c; decide +kernel
theorem cond10 (c : Dev nD) : (k0_cond10 c = 1#1) ↔ ((1 : Dev nD) ≠ c) := by revert c; decide +kernel
theorem cond11 (c : Dev nD) : (k0_cond11 c = 1#1) ↔ ((2 : Dev nD) ≠ c) := by revert c; decide +kernel
theorem cond12 (c : Dev nD) : (k0_cond12 c = 1#1) ↔ ((3 : Dev nD) ≠ c) := by revert c; decide +kernel
theorem cond13 (c : Dev nD) : (k0_cond13 c = 1#1) ↔ ((4 : Dev nD) ≠ c) := by revert c; decide +kernel
theorem cond14 (c : Dev nD) : (k0_cond14 c = 1#1) ↔ ((5 : Dev nD) ≠ c) := by revert c; decide +kernel
theorem cond15 (c : Dev nD) : (k0_cond15 c = 1#1) ↔ ((6 : Dev nD) ≠ c) := by revert c; decide +kernel
theorem cond16 (c : Dev nD) : (k0_cond16 c = 1#1) ↔ ((7 : Dev nD) ≠ c) := by revert c; decide +kernel
theorem dev9_eq (c : Dev nD) : (⟨k0_dev9 c, k0_dev9_lt c⟩ : Dev nD) = tgt c 0 := by revert c; decide +kernel
theorem dev10_eq (c : Dev nD) : (⟨k0_dev10 c, k0_dev10_lt c⟩ : Dev nD) = tgt c 1 := by revert c; decide +kernel
theorem dev11_eq (c : Dev nD) : (⟨k0_dev11 c, k0_dev11_lt c⟩ : Dev nD) = tgt c 2 := by revert c; decide +kernel
theorem dev12_eq (c : Dev nD) : (⟨k0_dev12 c, k0_dev12_lt c⟩ : Dev nD) = tgt c 3 := by revert c; decide +kernel
theorem dev13_eq (c : Dev nD) : (⟨k0_dev13 c, k0_dev13_lt c⟩ : Dev nD) = tgt c 4 := by revert c; decide +kernel
theorem dev14_eq (c : Dev nD) : (⟨k0_dev14 c, k0_dev14_lt c⟩ : Dev nD) = tgt c 5 := by revert c; decide +kernel
theorem dev15_eq (c : Dev nD) : (⟨k0_dev15 c, k0_dev15_lt c⟩ : Dev nD) = tgt c 6 := by revert c; decide +kernel

/-! ## The first stretch: copies started, the barrier met -/

/-- The first stretch with its guarded signals in a row. -/
theorem part1_eq : k0_part1 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 = (do
    let d0 : Dev nD ← Prog.lift .deviceId
    Prog.lift (.enqueueDma (Memref.whole main_arg0 : Memref sig .tc .hbm S2048x512 .f32) (.here xM) (.dma (cc0_scratch4 : DmaSems sig S_).sem) (Memref.isWhole_whole _).wordExact (Memref.isWhole_whole _).wordExact ⟨Or.inl rfl, trivial⟩)
    Prog.lift (.enqueueDma (Memref.whole main_arg3 : Memref sig .tc .hbm S8x512x1024 .f32) (.here wM) (.dma (cc0_scratch5 : DmaSems sig S_).sem) (Memref.isWhole_whole _).wordExact (Memref.isWhole_whole _).wordExact ⟨Or.inl rfl, trivial⟩)
    guardSig (k0_cond1 d0 = 1#1) (fun h => (⟨k0_dev1, k0_dev1_lt d0 h⟩ : Dev nD)) barS <|
    guardSig (k0_cond2 d0 = 1#1) (fun h => (⟨k0_dev2, k0_dev2_lt d0 h⟩ : Dev nD)) barS <|
    guardSig (k0_cond3 d0 = 1#1) (fun h => (⟨k0_dev3, k0_dev3_lt d0 h⟩ : Dev nD)) barS <|
    guardSig (k0_cond4 d0 = 1#1) (fun h => (⟨k0_dev4, k0_dev4_lt d0 h⟩ : Dev nD)) barS <|
    guardSig (k0_cond5 d0 = 1#1) (fun h => (⟨k0_dev5, k0_dev5_lt d0 h⟩ : Dev nD)) barS <|
    guardSig (k0_cond6 d0 = 1#1) (fun h => (⟨k0_dev6, k0_dev6_lt d0 h⟩ : Dev nD)) barS <|
    guardSig (k0_cond7 d0 = 1#1) (fun h => (⟨k0_dev7, k0_dev7_lt d0 h⟩ : Dev nD)) barS <|
    guardSig (k0_cond8 d0 = 1#1) (fun h => (⟨k0_dev8, k0_dev8_lt d0 h⟩ : Dev nD)) barS <|
    (do
      semWaitWord barS 7#32
      pure ⟨d0, devW d0⟩)) := rfl

/-- What the first barrier's signal to `j` starts from. -/
def barRes (c j : Dev nD) : sProp 𝕄 := iprop(dutyTok ER (kcell (j, kbar)) 0 c ∗ ∃ f, rPts (F := F) c j f)

theorem wp_part1 (c : Dev nD) {Q : (Σ' (d0 : Dev nD), BitVec 32) → sProp 𝕄} (fx fw) :
    iprop(records m K ∗ levAts L lv
        ∗ (own c main_arg0 (m ((c : Thread nD τ).loc main_arg0)) ∗ own (F := F) c cc0_scratch0 fx ∗ dutyTok ER (kcell (c, kxs)) 0 c)
        ∗ (own c main_arg3 (m ((c : Thread nD τ).loc main_arg3)) ∗ own (F := F) c cc0_scratch1 fw ∗ dutyTok ER (kcell (c, kws)) 0 c)
        ∗ ow c (O₀ c) ∗ (bigSep Finset.univ fun j : Dev nD => barRes (F := F) c j)
        ∗ cred (tallyAt (kcell (c, kbar)) () 7) ∗ atPos ER (kcell (c, kbar)) 0 ∅ 0)
      ⊢ iprop(((cred (tallyAt (kcell (c, kxs)) () NX) ∗ cred (tallyAt (kcell (c, kws)) () NW) ∗ ow c (sndO c)
            ∗ atPos ER (kcell (c, kbar)) 1 ∅ 0 ∗ (∃ f, rPts (F := F) c c f)
            ∗ (bigSep Finset.univ fun r : Fin 7 => iprop(∃ f, rPts (F := F) (tgt c r) c f))) -∗ Q ⟨c, devW c⟩)
          -∗ wpc c (k0_part1 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0) Q) := by
  rw [part1_eq]
  simp only [semWaitWord, Prog.lift, Prog.bind_op, Prog.bind_ret, Prog.pure_eq_ret, wp_deviceId]
  rw [bigSep_dev]
  unfold barRes
  iintro ⟨#HR, #HL, ⟨Hax, Hx, Htx⟩, ⟨Haw, Hw, Htw⟩, HO, ⟨⟨T0, X0⟩, ⟨T1, X1⟩, ⟨T2, X2⟩, ⟨T3, X3⟩, ⟨T4, X4⟩, ⟨T5, X5⟩, ⟨T6, X6⟩, ⟨T7, X7⟩⟩, Hc, Hat⟩ Hk
  iapply (wp_copy_x m K c fx) $$ [Hax Hx Htx]
  · isplitr; · iexact HR
    isplitl [Hax]; · iexact Hax
    isplitl [Hx] <;> iassumption
  iintro Hcx
  iapply (wp_copy_w m K c fw) $$ [Haw Hw Htw]
  · isplitr; · iexact HR
    isplitl [Haw]; · iexact Haw
    isplitl [Hw] <;> iassumption
  iintro Hcw
  iapply (wp_guard m K c 0 (cond1 c) (fun _ => Fin.ext k0_dev1_eq) kbar rfl
    (fun h => Finset.mem_erase.mpr ⟨h.symm, Finset.mem_univ _⟩) rfl iprop(∃ f, rPts (F := F) c 0 f) rfl (sndO c) (([1, 2, 3, 4, 5, 6, 7] : List (Dev nD)).map (oneT kbar c))) $$ [HO T0 X0]
  · isplitr; · iexact HR
    isplitl [HO]; · iexact HO
    isplitl [T0]; · iexact T0
    iexact X0
  iintro ⟨HO, X0⟩
  iapply (wp_guard m K c 1 (cond2 c) (fun _ => Fin.ext k0_dev2_eq) kbar rfl
    (fun h => Finset.mem_erase.mpr ⟨h.symm, Finset.mem_univ _⟩) rfl iprop(∃ f, rPts (F := F) c 1 f) rfl (sndO c) (([2, 3, 4, 5, 6, 7] : List (Dev nD)).map (oneT kbar c))) $$ [HO T1 X1]
  · isplitr; · iexact HR
    isplitl [HO]; · iexact HO
    isplitl [T1]; · iexact T1
    iexact X1
  iintro ⟨HO, X1⟩
  iapply (wp_guard m K c 2 (cond3 c) (fun _ => Fin.ext k0_dev3_eq) kbar rfl
    (fun h => Finset.mem_erase.mpr ⟨h.symm, Finset.mem_univ _⟩) rfl iprop(∃ f, rPts (F := F) c 2 f) rfl (sndO c) (([3, 4, 5, 6, 7] : List (Dev nD)).map (oneT kbar c))) $$ [HO T2 X2]
  · isplitr; · iexact HR
    isplitl [HO]; · iexact HO
    isplitl [T2]; · iexact T2
    iexact X2
  iintro ⟨HO, X2⟩
  iapply (wp_guard m K c 3 (cond4 c) (fun _ => Fin.ext k0_dev4_eq) kbar rfl
    (fun h => Finset.mem_erase.mpr ⟨h.symm, Finset.mem_univ _⟩) rfl iprop(∃ f, rPts (F := F) c 3 f) rfl (sndO c) (([4, 5, 6, 7] : List (Dev nD)).map (oneT kbar c))) $$ [HO T3 X3]
  · isplitr; · iexact HR
    isplitl [HO]; · iexact HO
    isplitl [T3]; · iexact T3
    iexact X3
  iintro ⟨HO, X3⟩
  iapply (wp_guard m K c 4 (cond5 c) (fun _ => Fin.ext k0_dev5_eq) kbar rfl
    (fun h => Finset.mem_erase.mpr ⟨h.symm, Finset.mem_univ _⟩) rfl iprop(∃ f, rPts (F := F) c 4 f) rfl (sndO c) (([5, 6, 7] : List (Dev nD)).map (oneT kbar c))) $$ [HO T4 X4]
  · isplitr; · iexact HR
    isplitl [HO]; · iexact HO
    isplitl [T4]; · iexact T4
    iexact X4
  iintro ⟨HO, X4⟩
  iapply (wp_guard m K c 5 (cond6 c) (fun _ => Fin.ext k0_dev6_eq) kbar rfl
    (fun h => Finset.mem_erase.mpr ⟨h.symm, Finset.mem_univ _⟩) rfl iprop(∃ f, rPts (F := F) c 5 f) rfl (sndO c) (([6, 7] : List (Dev nD)).map (oneT kbar c))) $$ [HO T5 X5]
  · isplitr; · iexact HR
    isplitl [HO]; · iexact HO
    isplitl [T5]; · iexact T5
    iexact X5
  iintro ⟨HO, X5⟩
  iapply (wp_guard m K c 6 (cond7 c) (fun _ => Fin.ext k0_dev7_eq) kbar rfl
    (fun h => Finset.mem_erase.mpr ⟨h.symm, Finset.mem_univ _⟩) rfl iprop(∃ f, rPts (F := F) c 6 f) rfl (sndO c) (([7] : List (Dev nD)).map (oneT kbar c))) $$ [HO T6 X6]
  · isplitr; · iexact HR
    isplitl [HO]; · iexact HO
    isplitl [T6]; · iexact T6
    iexact X6
  iintro ⟨HO, X6⟩
  iapply (wp_guard m K c 7 (cond8 c) (fun _ => Fin.ext k0_dev8_eq) kbar rfl
    (fun h => Finset.mem_erase.mpr ⟨h.symm, Finset.mem_univ _⟩) rfl iprop(∃ f, rPts (F := F) c 7 f) rfl (sndO c) (([] : List (Dev nD)).map (oneT kbar c))) $$ [HO T7 X7]
  · isplitr; · iexact HR
    isplitl [HO]; · iexact HO
    isplitl [T7]; · iexact T7
    iexact X7
  iintro ⟨HO, X7⟩
  iapply (wp_wait m K c kbar (sm := .reg barS) rfl (k' := (7#32 : BitVec 32).toInt.toNat)
    (wpE_semWait_eq 𝒱₀ (c : Thread nD τ) none Set.univ) (by rw [card_others]; rfl) (sndO c) 1 (Nat.le_refl _) (above_snd (by omega) c)) $$ [Hc HO Hat]
  · isplitr; · iexact HR
    isplitr; · iexact HL
    isplitl [Hc]; · iexact Hc
    isplitl [HO]; · iexact HO
    iexact Hat
  iintro ⟨HO, Hat, Hp⟩
  iapply (wpc_ret c)
  iapply Hk
  isplitl [Hcx]; · iexact Hcx
  isplitl [Hcw]; · iexact Hcw
  isplitl [HO]; · iexact HO
  isplitl [Hat]; · iexact Hat
  isplitl [X0 X1 X2 X3 X4 X5 X6 X7]
  · iapply (left_own c fun j => iprop(∃ f, rPts (F := F) c j f))
    rw [bigSep_dev]
    isplitl [X0]; · iexact X0
    isplitl [X1]; · iexact X1
    isplitl [X2]; · iexact X2
    isplitl [X3]; · iexact X3
    isplitl [X4]; · iexact X4
    isplitl [X5]; · iexact X5
    isplitl [X6] <;> iassumption
  · ihave Hp := (Entails.of_eq (show (bigSep (dutK c (some kbar)) fun d => payK m c d (some kbar))
      = bigSep Finset.univ fun r : Fin 7 => iprop(∃ f, rPts (F := F) (tgt c r) c f) from bigSep_tgt c _)) $$ Hp
    iexact Hp

end Cert.MoeRun

end
-- ==== Proof.Part2.lean ====
/-
# The body's middle stretches: the computation, the sends, the receipts, the sends' waits
-/
module

public import proofs.«01_k».proof.Proof.Part1

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## Loads and stores of whole buffers -/

theorem zero2 : (![0, 0] : Fin 2 → ℕ) = fun _ => 0 := by decide

theorem wp_load_ri (c : Dev nD) {off : Fin 2 → ℕ} (hz : off = fun _ => 0) (hi : ∀ a, off a + S2048x1.size a ≤ S2048x1.size a)
    {hl : riM.view.LoadsAt (Rect.unit (s := S2048x1) off S2048x1.size hi).toLoadRect}
    {α : Type} {Q : α → sProp 𝕄} {κ : Vec F S2048x1 .i32 → Prog (TpuEff nD τ sig (Elt F) Λ₀ .tc) α} (f : (cc0_stg0_0 : Ref sig .tc).ty.Contents (Elt F)) :
    own (F := F) c cc0_stg0_0 f ⊢ iprop((own (F := F) c cc0_stg0_0 f -∗ wpc c (κ f) Q)
      -∗ wpc c (.op (.load riM (Rect.unit (s := S2048x1) off S2048x1.size hi).toLoadRect hl) κ) Q) := by
  have h : riM.view.readAt (Elt F) (Rect.unit (s := S2048x1) off S2048x1.size hi).toLoadRect f = f := Memref.readAt_unit_zero (Elt F) cc0_stg0_0 hz hi f
  have := wp_load 𝒱₀ (c : Thread nD τ) none Set.univ (Q := Q) (m := riM) (r := (Rect.unit (s := S2048x1) off S2048x1.size hi).toLoadRect) (hl := hl) (k := κ)
    (q := fullShare) (f := f) (defs := defs₀ (F := F)) (Γ := PendingWaitsCtx.empty) (Finset.subset_univ _)
  rw [h] at this
  exact this
theorem wp_load_x (c : Dev nD) {off : Fin 2 → ℕ} (hz : off = fun _ => 0) (hi : ∀ a, off a + S2048x512.size a ≤ S2048x512.size a)
    {hl : xM.view.LoadsAt (Rect.unit (s := S2048x512) off S2048x512.size hi).toLoadRect}
    {α : Type} {Q : α → sProp 𝕄} {κ : Vec F S2048x512 .f32 → Prog (TpuEff nD τ sig (Elt F) Λ₀ .tc) α} (f : (cc0_scratch0 : Ref sig .tc).ty.Contents (Elt F)) :
    own (F := F) c cc0_scratch0 f ⊢ iprop((own (F := F) c cc0_scratch0 f -∗ wpc c (κ f) Q)
      -∗ wpc c (.op (.load xM (Rect.unit (s := S2048x512) off S2048x512.size hi).toLoadRect hl) κ) Q) := by
  have h : xM.view.readAt (Elt F) (Rect.unit (s := S2048x512) off S2048x512.size hi).toLoadRect f = f := Memref.readAt_unit_zero (Elt F) cc0_scratch0 hz hi f
  have := wp_load 𝒱₀ (c : Thread nD τ) none Set.univ (Q := Q) (m := xM) (r := (Rect.unit (s := S2048x512) off S2048x512.size hi).toLoadRect) (hl := hl) (k := κ)
    (q := fullShare) (f := f) (defs := defs₀ (F := F)) (Γ := PendingWaitsCtx.empty) (Finset.subset_univ _)
  rw [h] at this
  exact this
theorem wp_load_sb (c : Dev nD) {off : Fin 2 → ℕ} (hz : off = fun _ => 0) (hi : ∀ a, off a + S2048x1024.size a ≤ S2048x1024.size a)
    {hl : sM.view.LoadsAt (Rect.unit (s := S2048x1024) off S2048x1024.size hi).toLoadRect}
    {α : Type} {Q : α → sProp 𝕄} {κ : Vec F S2048x1024 .bf16 → Prog (TpuEff nD τ sig (Elt F) Λ₀ .tc) α} (f : (cc0_scratch2 : Ref sig .tc).ty.Contents (Elt F)) :
    own (F := F) c cc0_scratch2 f ⊢ iprop((own (F := F) c cc0_scratch2 f -∗ wpc c (κ f) Q)
      -∗ wpc c (.op (.load sM (Rect.unit (s := S2048x1024) off S2048x1024.size hi).toLoadRect hl) κ) Q) := by
  have h : sM.view.readAt (Elt F) (Rect.unit (s := S2048x1024) off S2048x1024.size hi).toLoadRect f = f := Memref.readAt_unit_zero (Elt F) cc0_scratch2 hz hi f
  have := wp_load 𝒱₀ (c : Thread nD τ) none Set.univ (Q := Q) (m := sM) (r := (Rect.unit (s := S2048x1024) off S2048x1024.size hi).toLoadRect) (hl := hl) (k := κ)
    (q := fullShare) (f := f) (defs := defs₀ (F := F)) (Γ := PendingWaitsCtx.empty) (Finset.subset_univ _)
  rw [h] at this
  exact this
theorem wp_load_o (c : Dev nD) {off : Fin 2 → ℕ} (hz : off = fun _ => 0) (hi : ∀ a, off a + S256x1024.size a ≤ S256x1024.size a)
    {hl : oM.view.LoadsAt (Rect.unit (s := S256x1024) off S256x1024.size hi).toLoadRect}
    {α : Type} {Q : α → sProp 𝕄} {κ : Vec F S256x1024 .f32 → Prog (TpuEff nD τ sig (Elt F) Λ₀ .tc) α} (f : (cc0_stg1_0 : Ref sig .tc).ty.Contents (Elt F)) :
    own (F := F) c cc0_stg1_0 f ⊢ iprop((own (F := F) c cc0_stg1_0 f -∗ wpc c (κ f) Q)
      -∗ wpc c (.op (.load oM (Rect.unit (s := S256x1024) off S256x1024.size hi).toLoadRect hl) κ) Q) := by
  have h : oM.view.readAt (Elt F) (Rect.unit (s := S256x1024) off S256x1024.size hi).toLoadRect f = f := Memref.readAt_unit_zero (Elt F) cc0_stg1_0 hz hi f
  have := wp_load 𝒱₀ (c : Thread nD τ) none Set.univ (Q := Q) (m := oM) (r := (Rect.unit (s := S256x1024) off S256x1024.size hi).toLoadRect) (hl := hl) (k := κ)
    (q := fullShare) (f := f) (defs := defs₀ (F := F)) (Γ := PendingWaitsCtx.empty) (Finset.subset_univ _)
  rw [h] at this
  exact this
theorem wp_store_sb (c : Dev nD) {off : Fin 2 → ℕ} (hz : off = fun _ => 0) (hi : ∀ a, off a + S2048x1024.size a ≤ S2048x1024.size a)
    {w : Vec F S2048x1024 .bf16} {hx : (sM.access (Rect.unit (s := S2048x1024) off S2048x1024.size hi)).Stores Finset.univ} {hm}
    {α : Type} {Q : α → sProp 𝕄} {κ : PUnit → Prog (TpuEff nD τ sig (Elt F) Λ₀ .tc) α} (f : (cc0_scratch2 : Ref sig .tc).ty.Contents (Elt F)) :
    own (F := F) c cc0_scratch2 f ⊢ iprop((own (F := F) c cc0_scratch2 w -∗ wpc c (κ ⟨⟩) Q)
      -∗ wpc c (.op (.store sM (Rect.unit (s := S2048x1024) off S2048x1024.size hi) w Finset.univ hx hm) κ) Q) := by
  have h : (sM.access (Rect.unit (s := S2048x1024) off S2048x1024.size hi)).write (Elt F) f w Finset.univ = w := Memref.write_access_unit_zero_univ (Elt F) cc0_scratch2 hz hi f w
  have := wp_store 𝒱₀ (c : Thread nD τ) none Set.univ (Q := Q) (m := sM) (r := Rect.unit (s := S2048x1024) off S2048x1024.size hi) (w := w) (Mk := Finset.univ) (hx := hx) (hm := hm) (k := κ)
    (f := f) (defs := defs₀ (F := F)) (Γ := PendingWaitsCtx.empty) (Finset.subset_univ _)
  rw [h] at this
  exact this
theorem wp_store_o (c : Dev nD) {off : Fin 2 → ℕ} (hz : off = fun _ => 0) (hi : ∀ a, off a + S256x1024.size a ≤ S256x1024.size a)
    {w : Vec F S256x1024 .f32} {hx : (oM.access (Rect.unit (s := S256x1024) off S256x1024.size hi)).Stores Finset.univ} {hm}
    {α : Type} {Q : α → sProp 𝕄} {κ : PUnit → Prog (TpuEff nD τ sig (Elt F) Λ₀ .tc) α} (f : (cc0_stg1_0 : Ref sig .tc).ty.Contents (Elt F)) :
    own (F := F) c cc0_stg1_0 f ⊢ iprop((own (F := F) c cc0_stg1_0 w -∗ wpc c (κ ⟨⟩) Q)
      -∗ wpc c (.op (.store oM (Rect.unit (s := S256x1024) off S256x1024.size hi) w Finset.univ hx hm) κ) Q) := by
  have h : (oM.access (Rect.unit (s := S256x1024) off S256x1024.size hi)).write (Elt F) f w Finset.univ = w := Memref.write_access_unit_zero_univ (Elt F) cc0_stg1_0 hz hi f w
  have := wp_store 𝒱₀ (c : Thread nD τ) none Set.univ (Q := Q) (m := oM) (r := Rect.unit (s := S256x1024) off S256x1024.size hi) (w := w) (Mk := Finset.univ) (hx := hx) (hm := hm) (k := κ)
    (f := f) (defs := defs₀ (F := F)) (Γ := PendingWaitsCtx.empty) (Finset.subset_univ _)
  rw [h] at this
  exact this
/-- A load of expert `k`'s weights. -/
theorem wp_load_w (c : Dev nD) (k : Fin 8) {hl : wM.view.LoadsAt (Rect.unit (s := S8x512x1024) ![k.val, 0, 0] S1x512x1024.size (w_inb k)).toLoadRect}
    {α : Type} {Q : α → sProp 𝕄} {κ : Vec F S1x512x1024 .f32 → Prog (TpuEff nD τ sig (Elt F) Λ₀ .tc) α} (w : (cc0_scratch1 : Ref sig .tc).ty.Contents (Elt F)) :
    own (F := F) c cc0_scratch1 w ⊢ iprop((own (F := F) c cc0_scratch1 w -∗ wpc c (κ (wRow w k)) Q)
      -∗ wpc c (.op (.load wM (Rect.unit (s := S8x512x1024) ![k.val, 0, 0] S1x512x1024.size (w_inb k)).toLoadRect hl) κ) Q) :=
  wp_load 𝒱₀ (c : Thread nD τ) none Set.univ (m := wM) (Finset.subset_univ _)

/-- The credit a send leaves on its own cell. -/
abbrev sentCr (c : Dev nD) (r : Fin 7) : sProp 𝕄 := cred (tallyAt (kcell (c, ksnd (tgt c r))) () N)

/-- The routing loaded. -/
theorem wp_part2 (c : Dev nD) {Q} (f : (cc0_stg0_0 : Ref sig .tc).ty.Contents (Elt F)) :
    own (F := F) c cc0_stg0_0 f
      ⊢ iprop((own (F := F) c cc0_stg0_0 f -∗ Q ⟨k0_pay1 (F := F) f, k0_pay2 (F := F) f, slotIota, k0_pay3, 32#32⟩)
          -∗ wpc c (k0_part2 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0) Q) := by
  rw [k0_part2_eq_skeleton]
  unfold k0_part2_skel
  simp only [Prog.lift, Prog.bind_op, Prog.bind_ret, Prog.pure_eq_ret]
  iintro H Hk
  iapply (wp_load_ri c zero2 _ f) $$ H
  iintro H
  iapply (wpc_ret c)
  iapply Hk; iexact H

/-- What the copies in start from, what they bring. -/
def inRes (c : Dev nD) : sProp 𝕄 :=
  iprop((cred (tallyAt (kcell (c, kxs)) () NX) ∗ atPos ER (kcell (c, kxs)) 0 ∅ 0)
    ∗ cred (tallyAt (kcell (c, kws)) () NW) ∗ atPos ER (kcell (c, kws)) 0 ∅ 0)
def inGot (c : Dev nD) : sProp 𝕄 :=
  iprop((own c cc0_scratch0 (xC m c) ∗ own c main_arg0 (m ((c : Thread nD τ).loc main_arg0)) ∗ atPos ER (kcell (c, kxs)) 1 ∅ 0)
    ∗ own c main_arg3 (m ((c : Thread nD τ).loc main_arg3)) ∗ atPos ER (kcell (c, kws)) 1 ∅ 0)

/-- The tokens and the weights awaited and loaded. -/
theorem wp_part3 (c : Dev nD) {Q} (v2 : BitVec 32) (v29 : IVec S2048x1 32) (v49 : IVec S2048x1 32) (v50 : IVec S2048x256 32) (v74 : IVec S2048x256 32) (k : BitVec 32) :
    iprop(records m K ∗ levAts L lv ∗ ow c (sndO c) ∗ inRes (F := F) c)
      ⊢ iprop(((ow c (sndO c) ∗ inGot m c ∗ own c cc0_scratch1 (wC m c))
            -∗ Q ⟨k0_pay4 (F := F) v2 v29 v49 v50 v74 k, k0_pay5 v2 v29 v49 v50 v74 k (xC m c),
                k0_pay6 v2 v29 v49 v50 v74 k (xC m c) (wRow (wC m c) 0), k0_pay7 v2 v29 v49 v50 v74 k (xC m c), wRow (wC m c) 1⟩)
          -∗ wpc c (k0_part3 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 v2 v29 v49 v50 v74 k) Q) := by
  rw [k0_part3_eq_skeleton]
  unfold k0_part3_skel
  simp only [Prog.lift, Prog.bind_op, Prog.bind_ret, Prog.pure_eq_ret]
  unfold inRes inGot
  iintro ⟨#HR, #HL, HO, ⟨Hcx, Hax⟩, Hcw, Haw⟩ Hk
  iapply (wp_wait m K c kxs (sm := csem kxs) rfl (k' := xM.view.dmaCredit)
    (wpE_waitDma2_eq 𝒱₀ (c : Thread nD τ) none Set.univ) (by show _ = ({c} : Finset (Dev nD)).card * _; rw [Finset.card_singleton, Nat.one_mul]; rfl)
    (sndO c) 0 (Nat.le_refl _) (above_snd (by omega) c)) $$ [Hcx HO Hax]
  · isplitr; · iexact HR
    isplitr; · iexact HL
    isplitl [Hcx]; · iexact Hcx
    isplitl [HO] <;> iassumption
  rw [show dutK c (some kxs) = {c} from rfl, bigSep_singleton]
  unfold payK
  iintro ⟨HO, Hax, Hx, Hx0⟩
  iapply (wp_load_x c zero2 _ (xC m c)) $$ Hx
  iintro Hx
  iapply (wp_wait m K c kws (sm := csem kws) rfl (k' := wM.view.dmaCredit)
    (wpE_waitDma2_eq 𝒱₀ (c : Thread nD τ) none Set.univ) (by show _ = ({c} : Finset (Dev nD)).card * _; rw [Finset.card_singleton, Nat.one_mul]; rfl)
    (sndO c) 0 (Nat.le_refl _) (above_snd (by omega) c)) $$ [Hcw HO Haw]
  · isplitr; · iexact HR
    isplitr; · iexact HL
    isplitl [Hcw]; · iexact Hcw
    isplitl [HO] <;> iassumption
  rw [show dutK c (some kws) = {c} from rfl, bigSep_singleton]
  unfold payK
  iintro ⟨HO, Haw, Hw, Hw0⟩
  iapply (wp_load_w c 0 (wC m c)) $$ Hw
  iintro Hw
  iapply (wp_load_w c 1 (wC m c)) $$ Hw
  iintro Hw
  iapply (wpc_ret c)
  iapply Hk
  isplitl [HO]; · iexact HO
  isplitr [Hw]
  · isplitl [Hx Hx0 Hax]
    · isplitl [Hx]; · iexact Hx
      isplitl [Hx0] <;> iassumption
    isplitl [Hw0] <;> iassumption
  iexact Hw

/-- The other six experts' weights loaded. -/
theorem wp_part4 (c : Dev nD) {Q} (v108 : FVec F S256x512 .bf16) (v113 : FVec F S32x1024 .f32) (v114 : FVec F S32x512 .bf16) (v115 : Vec F S1x512x1024 .f32)
    (w : (cc0_scratch1 : Ref sig .tc).ty.Contents (Elt F)) :
    own (F := F) c cc0_scratch1 w
      ⊢ iprop((own (F := F) c cc0_scratch1 w -∗ Q (k0_pay8 v108 v113 v114 v115 (wRow w 2) (wRow w 3) (wRow w 4) (wRow w 5) (wRow w 6) (wRow w 7)))
          -∗ wpc c (k0_part4 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 v108 v113 v114 v115) Q) := by
  rw [k0_part4_eq_skeleton]
  unfold k0_part4_skel
  simp only [Prog.lift, Prog.bind_op, Prog.bind_ret, Prog.pure_eq_ret]
  iintro Hw Hk
  iapply (wp_load_w c 2 w) $$ Hw
  iintro Hw
  iapply (wp_load_w c 3 w) $$ Hw
  iintro Hw
  iapply (wp_load_w c 4 w) $$ Hw
  iintro Hw
  iapply (wp_load_w c 5 w) $$ Hw
  iintro Hw
  iapply (wp_load_w c 6 w) $$ Hw
  iintro Hw
  iapply (wp_load_w c 7 w) $$ Hw
  iintro Hw
  iapply (wpc_ret c)
  iapply Hk; iexact Hw

/-- What the sends need besides the computed blocks. -/
def sendTok (c : Dev nD) : sProp 𝕄 :=
  iprop((bigSep Finset.univ fun r : Fin 7 => iprop(∃ f, rPts (F := F) (tgt c r) c f))
    ∗ (bigSep Finset.univ fun r : Fin 7 => dutyTok ER (kcell (c, ksnd (tgt c r))) 0 c)
    ∗ bigSep Finset.univ fun r : Fin 7 => dutyTok ER (kcell (tgt c r, krcv c)) 0 c)

/-- The send buffer filled and cut into its blocks: every send's start, and the core's own block. -/
theorem sends_intro (c : Dev nD) :
    iprop(own c cc0_scratch2 (sbuf m c) ∗ sendTok (F := F) c)
      ⊢ iprop(sPts c c (sbuf m c) ∗ bigSep Finset.univ fun r : Fin 7 => sendRes m c (tgt c r)) := by
  unfold sendTok sendRes
  rw [s_blocks, show (bigSep Finset.univ fun j : Dev nD => sPts c j (sbuf m c)) = iprop(sPts c c (sbuf m c) ∗ bigSep Finset.univ fun r : Fin 7 => sPts c (tgt c r) (sbuf m c))
    from by rw [bigSep_erase (Finset.mem_univ c), bigSep_tgt]; rfl, bigSep_sep', bigSep_sep', bigSep_sep']
  iintro ⟨⟨H1, H2⟩, H3, H4, H5⟩
  isplitl [H1]; · iexact H1
  isplitl [H3]; · iexact H3
  isplitl [H4]; · iexact H4
  isplitl [H5]; · iexact H5
  iexact H2

/-- The computed blocks stored; the first send. -/
theorem wp_part5 (c : Dev nD) {Q} (v2 : BitVec 32) (v104 : FVec F S2048x256 .bf16) (v150 : FVec F S256x1024 .bf16)
    (hv : k0_pay9 v104 v150 = sbuf m c) (f : Buf (Elt F) ((c : Thread nD τ).loc cc0_scratch2)) :
    iprop(records m K ∗ ow c (sndO c) ∗ own (F := F) c cc0_scratch2 f ∗ sendTok (F := F) c)
      ⊢ iprop((∀ r, (ow c (owedL (finO c) (([1, 2, 3, 4, 5, 6] : List (Fin 7)).map (blkT c))) ∗ sentCr (F := F) c 0 ∗ sPts c c (sbuf m c)
            ∗ sendRes m c (tgt c 1) ∗ sendRes m c (tgt c 2) ∗ sendRes m c (tgt c 3) ∗ sendRes m c (tgt c 4) ∗ sendRes m c (tgt c 5) ∗ sendRes m c (tgt c 6)) -∗ Q r)
          -∗ wpc c (k0_part5 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 v104 v150) Q) := by
  rw [k0_part5_eq_skeleton]
  unfold k0_part5_skel
  simp only [Prog.lift, Prog.bind_op, Prog.bind_ret, Prog.pure_eq_ret]
  iintro ⟨#HR, HO, Hs, Ht⟩ Hk
  iapply (wp_load_sb c zero2 _ f) $$ Hs
  iintro Hs
  iapply (wp_store_sb c zero2 _ f) $$ Hs
  rw [hv]
  iintro Hs
  ihave H := (sends_intro m c) $$ [Hs Ht]
  · isplitl [Hs] <;> iassumption
  rw [bigSep_off]
  icases H with ⟨H0, S0, S1, S2, S3, S4, S5, S6⟩
  iapply (wp_send_blk m K c 0 _ (dev9_eq c) (sB_eq (tgt c 0) (k0_off4 c 1#32) (k0_off4_inb c 0) (off4_eq c 0))
    (rB_eq c (k0_off3 c) (k0_off3_inb c) (k0_off3_eq c)) (sndS_eq (tgt c 0) (k0_off1 c 1#32) (k0_off1_inb c 0) (off1_eq c 0))
    (rcvS_eq c (k0_off2 c) (k0_off2_inb c) (k0_off2_eq c)) (finO c) (([1, 2, 3, 4, 5, 6] : List (Fin 7)).map (blkT c))) $$ [HO S0]
  · isplitr; · iexact HR
    isplitl [HO]; · iexact HO
    iexact S0
  iintro ⟨C0, HO⟩
  iapply (wpc_ret c)
  iapply Hk
  isplitl [HO]; · iexact HO
  isplitl [C0]; · iexact C0
  isplitl [H0]; · iexact H0
  isplitl [S1]; · iexact S1
  isplitl [S2]; · iexact S2
  isplitl [S3]; · iexact S3
  isplitl [S4]; · iexact S4
  isplitl [S5]; · iexact S5
  iexact S6

/-- The second and third sends. -/
theorem wp_part6 (c : Dev nD) {Q} (v2 v179 v180 : BitVec 32) (v185 : BitVec 1) :
    iprop(records m K ∗ ow c (owedL (finO c) (([1, 2, 3, 4, 5, 6] : List (Fin 7)).map (blkT c))) ∗ sendRes m c (tgt c 1) ∗ sendRes m c (tgt c 2))
      ⊢ iprop((∀ r, (ow c (owedL (finO c) (([3, 4, 5, 6] : List (Fin 7)).map (blkT c))) ∗ sentCr (F := F) c 1 ∗ sentCr (F := F) c 2) -∗ Q r)
          -∗ wpc c (k0_part6 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 v179 v180 v185) Q) := by
  rw [k0_part6_eq_skeleton]
  unfold k0_part6_skel
  simp only [Prog.lift, Prog.bind_op, Prog.bind_ret, Prog.pure_eq_ret]
  iintro ⟨#HR, HO, S1, S2⟩ Hk
  iapply (wp_send_blk m K c 1 _ (dev10_eq c) (sB_eq (tgt c 1) (k0_off4 c 2#32) (k0_off4_inb c 1) (off4_eq c 1))
    (rB_eq c (k0_off3 c) (k0_off3_inb c) (k0_off3_eq c)) (sndS_eq (tgt c 1) (k0_off1 c 2#32) (k0_off1_inb c 1) (off1_eq c 1))
    (rcvS_eq c (k0_off2 c) (k0_off2_inb c) (k0_off2_eq c)) (finO c) (([2, 3, 4, 5, 6] : List (Fin 7)).map (blkT c))) $$ [HO S1]
  · isplitr; · iexact HR
    isplitl [HO]; · iexact HO
    iexact S1
  iintro ⟨C1, HO⟩
  iapply (wp_send_blk m K c 2 _ (dev11_eq c) (sB_eq (tgt c 2) (k0_off4 c 3#32) (k0_off4_inb c 2) (off4_eq c 2))
    (rB_eq c (k0_off3 c) (k0_off3_inb c) (k0_off3_eq c)) (sndS_eq (tgt c 2) (k0_off1 c 3#32) (k0_off1_inb c 2) (off1_eq c 2))
    (rcvS_eq c (k0_off2 c) (k0_off2_inb c) (k0_off2_eq c)) (finO c) (([3, 4, 5, 6] : List (Fin 7)).map (blkT c))) $$ [HO S2]
  · isplitr; · iexact HR
    isplitl [HO]; · iexact HO
    iexact S2
  iintro ⟨C2, HO⟩
  iapply (wpc_ret c)
  iapply Hk
  isplitl [HO]; · iexact HO
  isplitl [C1]; · iexact C1
  iexact C2

/-- The fourth send. -/
theorem wp_part7 (c : Dev nD) {Q} (v2 v219 k8 : BitVec 32) (v220 : BitVec 1) (k1 : BitVec 32) :
    iprop(records m K ∗ ow c (owedL (finO c) (([3, 4, 5, 6] : List (Fin 7)).map (blkT c))) ∗ sendRes m c (tgt c 3))
      ⊢ iprop(((ow c (owedL (finO c) (([4, 5, 6] : List (Fin 7)).map (blkT c))) ∗ sentCr (F := F) c 3) -∗ Q ⟨⟩)
          -∗ wpc c (k0_part7 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 v219 k8 v220 k1) Q) := by
  rw [k0_part7_eq_skeleton]
  unfold k0_part7_skel
  simp only [Prog.lift, Prog.bind_op, Prog.bind_ret, Prog.pure_eq_ret]
  iintro ⟨#HR, HO, S3⟩ Hk
  iapply (wp_send_blk m K c 3 _ (dev12_eq c) (sB_eq (tgt c 3) (k0_off4 c 4#32) (k0_off4_inb c 3) (off4_eq c 3))
    (rB_eq c (k0_off3 c) (k0_off3_inb c) (k0_off3_eq c)) (sndS_eq (tgt c 3) (k0_off1 c 4#32) (k0_off1_inb c 3) (off1_eq c 3))
    (rcvS_eq c (k0_off2 c) (k0_off2_inb c) (k0_off2_eq c)) (finO c) (([4, 5, 6] : List (Fin 7)).map (blkT c))) $$ [HO S3]
  · isplitr; · iexact HR
    isplitl [HO]; · iexact HO
    iexact S3
  iintro ⟨C3, HO⟩
  iapply (wpc_ret c)
  iapply Hk
  isplitl [HO]; · iexact HO
  iexact C3

/-- The fifth and sixth sends. -/
theorem wp_part8 (c : Dev nD) {Q} (v2 : BitVec 32) :
    iprop(records m K ∗ ow c (owedL (finO c) (([4, 5, 6] : List (Fin 7)).map (blkT c))) ∗ sendRes m c (tgt c 4) ∗ sendRes m c (tgt c 5))
      ⊢ iprop((∀ r, (ow c (owedL (finO c) (([6] : List (Fin 7)).map (blkT c))) ∗ sentCr (F := F) c 4 ∗ sentCr (F := F) c 5) -∗ Q r)
          -∗ wpc c (k0_part8 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2) Q) := by
  rw [k0_part8_eq_skeleton]
  unfold k0_part8_skel
  simp only [Prog.lift, Prog.bind_op, Prog.bind_ret, Prog.pure_eq_ret]
  iintro ⟨#HR, HO, S4, S5⟩ Hk
  iapply (wp_send_blk m K c 4 _ (dev13_eq c) (sB_eq (tgt c 4) (k0_off4 c 5#32) (k0_off4_inb c 4) (off4_eq c 4))
    (rB_eq c (k0_off3 c) (k0_off3_inb c) (k0_off3_eq c)) (sndS_eq (tgt c 4) (k0_off1 c 5#32) (k0_off1_inb c 4) (off1_eq c 4))
    (rcvS_eq c (k0_off2 c) (k0_off2_inb c) (k0_off2_eq c)) (finO c) (([5, 6] : List (Fin 7)).map (blkT c))) $$ [HO S4]
  · isplitr; · iexact HR
    isplitl [HO]; · iexact HO
    iexact S4
  iintro ⟨C4, HO⟩
  iapply (wp_send_blk m K c 5 _ (dev14_eq c) (sB_eq (tgt c 5) (k0_off4 c 6#32) (k0_off4_inb c 5) (off4_eq c 5))
    (rB_eq c (k0_off3 c) (k0_off3_inb c) (k0_off3_eq c)) (sndS_eq (tgt c 5) (k0_off1 c 6#32) (k0_off1_inb c 5) (off1_eq c 5))
    (rcvS_eq c (k0_off2 c) (k0_off2_inb c) (k0_off2_eq c)) (finO c) (([6] : List (Fin 7)).map (blkT c))) $$ [HO S5]
  · isplitr; · iexact HR
    isplitl [HO]; · iexact HO
    iexact S5
  iintro ⟨C5, HO⟩
  iapply (wpc_ret c)
  iapply Hk
  isplitl [HO]; · iexact HO
  isplitl [C4]; · iexact C4
  iexact C5

/-- The last send; the core's own block loaded; the first receipt. -/
theorem wp_part9 (c : Dev nD) {Q} (v2 v292 k256 : BitVec 32) :
    iprop(records m K ∗ levAts L lv ∗ ow c (owedL (finO c) (([6] : List (Fin 7)).map (blkT c))) ∗ sendRes m c (tgt c 6) ∗ sPts c c (sbuf m c) ∗ recvRes (F := F) c (sdr c 0))
      ⊢ iprop(((ow c (finO c) ∗ sentCr (F := F) c 6 ∗ sPts c c (sbuf m c) ∗ gotRes (F := F) c (sdr c 0))
            -∗ Q ⟨k0_pay10 (blkOf (sbuf m c) c), blkOf (sbuf m (sdr c 0)) c⟩)
          -∗ wpc c (k0_part9 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 v292 k256) Q) := by
  rw [k0_part9_eq_skeleton]
  unfold k0_part9_skel
  simp only [Prog.lift, Prog.bind_op, Prog.bind_ret, Prog.pure_eq_ret]
  iintro ⟨#HR, #HL, HO, S6, H0, R0⟩ Hk
  iapply (wp_send_blk m K c 6 _ (dev15_eq c) (sB_eq (tgt c 6) (k0_off4 c 7#32) (k0_off4_inb c 6) (off4_eq c 6))
    (rB_eq c (k0_off3 c) (k0_off3_inb c) (k0_off3_eq c)) (sndS_eq (tgt c 6) (k0_off1 c 7#32) (k0_off1_inb c 6) (off1_eq c 6))
    (rcvS_eq c (k0_off2 c) (k0_off2_inb c) (k0_off2_eq c)) (finO c) (([] : List (Fin 7)).map (blkT c))) $$ [HO S6]
  · isplitr; · iexact HR
    isplitl [HO]; · iexact HO
    iexact S6
  iintro ⟨C6, HO⟩
  iapply (wp_load_s c c (k0_off5_inb c) (k0_off5_eq c) (sbuf m c)) $$ H0
  iintro H0
  iapply (wp_recv_blk m K c (sdr c 0) (sdr_ne c 0) (rcvS_eq (sdr c 0) (k0_off6 c 1#32) (k0_off6_inb c 0) (off6_eq c 0))
    (rB_eq (sdr c 0) (k0_off7 c 1#32) (k0_off7_inb c 0) (off7_eq c 0)) (k0_off8_inb c 0) (off8_eq c 0)) $$ [HO R0]
  · isplitr; · iexact HR
    isplitr; · iexact HL
    isplitl [HO]; · iexact HO
    iexact R0
  iintro ⟨HO, R0⟩
  iapply (wpc_ret c)
  iapply Hk
  isplitl [HO]; · iexact HO
  isplitl [C6]; · iexact C6
  isplitl [H0]; · iexact H0
  iexact R0

/-- Receipts 1. -/
theorem wp_part10 (c : Dev nD) {Q} (v2 : BitVec 32) (a : FVec F S256x1024 .f32) (b : Vec F S256x1024 .bf16) :
    iprop(records m K ∗ levAts L lv ∗ ow c (finO c) ∗ recvRes (F := F) c (sdr c 1))
      ⊢ iprop((∀ w1 : BitVec 32, ∀ w2 : BitVec 32, ∀ w3 : BitVec 1, ∀ w4 : BitVec 1, ∀ w5 : BitVec 1, (ow c (finO c) ∗ gotRes (F := F) c (sdr c 1)) -∗ Q ⟨k0_pay11 a b (blkOf (sbuf m (sdr c 1)) c), w1, w2, w3, w4, w5⟩)
          -∗ wpc c (k0_part10 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 a b) Q) := by
  rw [k0_part10_eq_skeleton]
  unfold k0_part10_skel
  simp only [Prog.lift, Prog.bind_op, Prog.bind_ret, Prog.pure_eq_ret]
  iintro ⟨#HR, #HL, HO, R1⟩ Hk
  iapply (wp_recv_blk m K c (sdr c 1) (sdr_ne c 1) (rcvS_eq (sdr c 1) (k0_off6 c 2#32) (k0_off6_inb c 1) (off6_eq c 1))
    (rB_eq (sdr c 1) (k0_off7 c 2#32) (k0_off7_inb c 1) (off7_eq c 1)) (k0_off8_inb c 1) (off8_eq c 1)) $$ [HO R1]
  · isplitr; · iexact HR
    isplitr; · iexact HL
    isplitl [HO]; · iexact HO
    iexact R1
  iintro ⟨HO, R1⟩
  iapply (wpc_ret c)
  iapply Hk
  isplitl [HO]; · iexact HO
  iexact R1

/-- Receipts 2. -/
theorem wp_part11 (c : Dev nD) {Q} (v2 : BitVec 32) (a : FVec F S256x1024 .f32) (x1 x2 : BitVec 32) (y1 y2 y3 : BitVec 1) :
    iprop(records m K ∗ levAts L lv ∗ ow c (finO c) ∗ recvRes (F := F) c (sdr c 2))
      ⊢ iprop((∀ w1 : BitVec 32, (ow c (finO c) ∗ gotRes (F := F) c (sdr c 2)) -∗ Q ⟨k0_pay12 a (blkOf (sbuf m (sdr c 2)) c), w1⟩)
          -∗ wpc c (k0_part11 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 a x1 x2 y1 y2 y3) Q) := by
  rw [k0_part11_eq_skeleton]
  unfold k0_part11_skel
  simp only [Prog.lift, Prog.bind_op, Prog.bind_ret, Prog.pure_eq_ret]
  iintro ⟨#HR, #HL, HO, R2⟩ Hk
  iapply (wp_recv_blk m K c (sdr c 2) (sdr_ne c 2) (rcvS_eq (sdr c 2) (k0_off6 c 3#32) (k0_off6_inb c 2) (off6_eq c 2))
    (rB_eq (sdr c 2) (k0_off7 c 3#32) (k0_off7_inb c 2) (off7_eq c 2)) (k0_off8_inb c 2) (off8_eq c 2)) $$ [HO R2]
  · isplitr; · iexact HR
    isplitr; · iexact HL
    isplitl [HO]; · iexact HO
    iexact R2
  iintro ⟨HO, R2⟩
  iapply (wpc_ret c)
  iapply Hk
  isplitl [HO]; · iexact HO
  iexact R2

/-- Receipts 3, 4. -/
theorem wp_part12 (c : Dev nD) {Q} (v2 : BitVec 32) (a : FVec F S256x1024 .f32) (x1 : BitVec 32) :
    iprop(records m K ∗ levAts L lv ∗ ow c (finO c) ∗ recvRes (F := F) c (sdr c 3) ∗ recvRes (F := F) c (sdr c 4))
      ⊢ iprop((∀ w1 : BitVec 32, ∀ w2 : BitVec 32, (ow c (finO c) ∗ gotRes (F := F) c (sdr c 3) ∗ gotRes (F := F) c (sdr c 4)) -∗ Q ⟨k0_pay13 a (blkOf (sbuf m (sdr c 3)) c) (blkOf (sbuf m (sdr c 4)) c), w1, w2⟩)
          -∗ wpc c (k0_part12 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 a x1) Q) := by
  rw [k0_part12_eq_skeleton]
  unfold k0_part12_skel
  simp only [Prog.lift, Prog.bind_op, Prog.bind_ret, Prog.pure_eq_ret]
  iintro ⟨#HR, #HL, HO, R3, R4⟩ Hk
  iapply (wp_recv_blk m K c (sdr c 3) (sdr_ne c 3) (rcvS_eq (sdr c 3) (k0_off6 c 4#32) (k0_off6_inb c 3) (off6_eq c 3))
    (rB_eq (sdr c 3) (k0_off7 c 4#32) (k0_off7_inb c 3) (off7_eq c 3)) (k0_off8_inb c 3) (off8_eq c 3)) $$ [HO R3]
  · isplitr; · iexact HR
    isplitr; · iexact HL
    isplitl [HO]; · iexact HO
    iexact R3
  iintro ⟨HO, R3⟩
  iapply (wp_recv_blk m K c (sdr c 4) (sdr_ne c 4) (rcvS_eq (sdr c 4) (k0_off6 c 5#32) (k0_off6_inb c 4) (off6_eq c 4))
    (rB_eq (sdr c 4) (k0_off7 c 5#32) (k0_off7_inb c 4) (off7_eq c 4)) (k0_off8_inb c 4) (off8_eq c 4)) $$ [HO R4]
  · isplitr; · iexact HR
    isplitr; · iexact HL
    isplitl [HO]; · iexact HO
    iexact R4
  iintro ⟨HO, R4⟩
  iapply (wpc_ret c)
  iapply Hk
  isplitl [HO]; · iexact HO
  isplitl [R3]; · iexact R3
  iexact R4

/-- Receipts 5. -/
theorem wp_part13 (c : Dev nD) {Q} (v2 : BitVec 32) (a : FVec F S256x1024 .f32) (x1 x2 : BitVec 32) :
    iprop(records m K ∗ levAts L lv ∗ ow c (finO c) ∗ recvRes (F := F) c (sdr c 5))
      ⊢ iprop((∀ w1 : BitVec 32, (ow c (finO c) ∗ gotRes (F := F) c (sdr c 5)) -∗ Q ⟨k0_pay14 a (blkOf (sbuf m (sdr c 5)) c), w1⟩)
          -∗ wpc c (k0_part13 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 a x1 x2) Q) := by
  rw [k0_part13_eq_skeleton]
  unfold k0_part13_skel
  simp only [Prog.lift, Prog.bind_op, Prog.bind_ret, Prog.pure_eq_ret]
  iintro ⟨#HR, #HL, HO, R5⟩ Hk
  iapply (wp_recv_blk m K c (sdr c 5) (sdr_ne c 5) (rcvS_eq (sdr c 5) (k0_off6 c 6#32) (k0_off6_inb c 5) (off6_eq c 5))
    (rB_eq (sdr c 5) (k0_off7 c 6#32) (k0_off7_inb c 5) (off7_eq c 5)) (k0_off8_inb c 5) (off8_eq c 5)) $$ [HO R5]
  · isplitr; · iexact HR
    isplitr; · iexact HL
    isplitl [HO]; · iexact HO
    iexact R5
  iintro ⟨HO, R5⟩
  iapply (wpc_ret c)
  iapply Hk
  isplitl [HO]; · iexact HO
  iexact R5

/-- The last receipt, the result stored, the first send's wait. -/
theorem wp_part14 (c : Dev nD) {Q} (v2 : BitVec 32) (a : FVec F S256x1024 .f32) (x1 : BitVec 32) (f) :
    iprop(records m K ∗ levAts L lv ∗ ow c (finO c) ∗ recvRes (F := F) c (sdr c 6) ∗ own (F := F) c cc0_stg1_0 f ∗ sentRes (F := F) c (tgt c 0))
      ⊢ iprop((∀ r, (ow c (finO c) ∗ gotRes (F := F) c (sdr c 6) ∗ own (F := F) c cc0_stg1_0 (k0_pay15 a (blkOf (sbuf m (sdr c 6)) c)) ∗ backRes m c (tgt c 0)) -∗ Q r)
          -∗ wpc c (k0_part14 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 a x1) Q) := by
  rw [k0_part14_eq_skeleton]
  unfold k0_part14_skel
  simp only [Prog.lift, Prog.bind_op, Prog.bind_ret, Prog.pure_eq_ret]
  iintro ⟨#HR, #HL, HO, R6, Ho, C0⟩ Hk
  iapply (wp_recv_blk m K c (sdr c 6) (sdr_ne c 6) (rcvS_eq (sdr c 6) (k0_off6 c 7#32) (k0_off6_inb c 6) (off6_eq c 6))
    (rB_eq (sdr c 6) (k0_off7 c 7#32) (k0_off7_inb c 6) (off7_eq c 6)) (k0_off8_inb c 6) (off8_eq c 6)) $$ [HO R6]
  · isplitr; · iexact HR
    isplitr; · iexact HL
    isplitl [HO]; · iexact HO
    iexact R6
  iintro ⟨HO, R6⟩
  iapply (wp_load_o c zero2 _ f) $$ Ho
  iintro Ho
  iapply (wp_store_o c zero2 _ f) $$ Ho
  iintro Ho
  iapply (wp_sent_blk m K c (tgt c 0) (tgt_ne c 0) (sndS_eq (tgt c 0) (k0_off1 c 1#32) (k0_off1_inb c 0) (off1_eq c 0))
    (dst := sM.slice (Rect.unit (s := S2048x1024) (k0_off4 c 1#32) S256x1024.size (k0_off4_inb c 0)) (fun _ => rfl)) rfl) $$ [HO C0]
  · isplitr; · iexact HR
    isplitr; · iexact HL
    isplitl [HO]; · iexact HO
    iexact C0
  iintro ⟨HO, C0⟩
  iapply (wpc_ret c)
  iapply Hk
  isplitl [HO]; · iexact HO
  isplitl [R6]; · iexact R6
  isplitl [Ho]; · iexact Ho
  iexact C0

/-- The waits of sends 1, 2. -/
theorem wp_part15 (c : Dev nD) {Q} (v2 x1 x2 : BitVec 32) (y1 y2 : BitVec 1) :
    iprop(records m K ∗ levAts L lv ∗ ow c (finO c) ∗ sentRes (F := F) c (tgt c 1) ∗ sentRes (F := F) c (tgt c 2))
      ⊢ iprop((∀ r, (ow c (finO c) ∗ backRes m c (tgt c 1) ∗ backRes m c (tgt c 2)) -∗ Q r)
          -∗ wpc c (k0_part15 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 x1 x2 y1 y2) Q) := by
  rw [k0_part15_eq_skeleton]
  unfold k0_part15_skel
  simp only [Prog.lift, Prog.bind_op, Prog.bind_ret, Prog.pure_eq_ret]
  iintro ⟨#HR, #HL, HO, C1, C2⟩ Hk
  iapply (wp_sent_blk m K c (tgt c 1) (tgt_ne c 1) (sndS_eq (tgt c 1) (k0_off1 c 2#32) (k0_off1_inb c 1) (off1_eq c 1))
    (dst := sM.slice (Rect.unit (s := S2048x1024) (k0_off4 c 2#32) S256x1024.size (k0_off4_inb c 1)) (fun _ => rfl)) rfl) $$ [HO C1]
  · isplitr; · iexact HR
    isplitr; · iexact HL
    isplitl [HO]; · iexact HO
    iexact C1
  iintro ⟨HO, C1⟩
  iapply (wp_sent_blk m K c (tgt c 2) (tgt_ne c 2) (sndS_eq (tgt c 2) (k0_off1 c 3#32) (k0_off1_inb c 2) (off1_eq c 2))
    (dst := sM.slice (Rect.unit (s := S2048x1024) (k0_off4 c 3#32) S256x1024.size (k0_off4_inb c 2)) (fun _ => rfl)) rfl) $$ [HO C2]
  · isplitr; · iexact HR
    isplitr; · iexact HL
    isplitl [HO]; · iexact HO
    iexact C2
  iintro ⟨HO, C2⟩
  iapply (wpc_ret c)
  iapply Hk
  isplitl [HO]; · iexact HO
  isplitl [C1]; · iexact C1
  iexact C2

/-- The waits of sends 3, 4. -/
theorem wp_part16 (c : Dev nD) {Q} (v2 x1 x2 : BitVec 32) (y1 y2 : BitVec 1) :
    iprop(records m K ∗ levAts L lv ∗ ow c (finO c) ∗ sentRes (F := F) c (tgt c 3) ∗ sentRes (F := F) c (tgt c 4))
      ⊢ iprop((∀ r, (ow c (finO c) ∗ backRes m c (tgt c 3) ∗ backRes m c (tgt c 4)) -∗ Q r)
          -∗ wpc c (k0_part16 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 x1 x2 y1 y2) Q) := by
  rw [k0_part16_eq_skeleton]
  unfold k0_part16_skel
  simp only [Prog.lift, Prog.bind_op, Prog.bind_ret, Prog.pure_eq_ret]
  iintro ⟨#HR, #HL, HO, C3, C4⟩ Hk
  iapply (wp_sent_blk m K c (tgt c 3) (tgt_ne c 3) (sndS_eq (tgt c 3) (k0_off1 c 4#32) (k0_off1_inb c 3) (off1_eq c 3))
    (dst := sM.slice (Rect.unit (s := S2048x1024) (k0_off4 c 4#32) S256x1024.size (k0_off4_inb c 3)) (fun _ => rfl)) rfl) $$ [HO C3]
  · isplitr; · iexact HR
    isplitr; · iexact HL
    isplitl [HO]; · iexact HO
    iexact C3
  iintro ⟨HO, C3⟩
  iapply (wp_sent_blk m K c (tgt c 4) (tgt_ne c 4) (sndS_eq (tgt c 4) (k0_off1 c 5#32) (k0_off1_inb c 4) (off1_eq c 4))
    (dst := sM.slice (Rect.unit (s := S2048x1024) (k0_off4 c 5#32) S256x1024.size (k0_off4_inb c 4)) (fun _ => rfl)) rfl) $$ [HO C4]
  · isplitr; · iexact HR
    isplitr; · iexact HL
    isplitl [HO]; · iexact HO
    iexact C4
  iintro ⟨HO, C4⟩
  iapply (wpc_ret c)
  iapply Hk
  isplitl [HO]; · iexact HO
  isplitl [C3]; · iexact C3
  iexact C4

end Cert.MoeRun

end
-- ==== Proof.Part3.lean ====
/-
# The body's end and the whole body
-/
module

public import proofs.«01_k».proof.Proof.Part2

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## The last sends' waits and the closing barrier -/

/-- The closing barrier's last six signals and its wait. -/
def tailP (d0 : Dev nD) : Prog (TpuEff nD τ sig (Elt F) Λ₀ .tc) PUnit :=
  guardSig (k0_cond11 d0 = 1#1) (fun h => (⟨k0_dev18, k0_dev18_lt d0 h⟩ : Dev nD)) finS <|
  guardSig (k0_cond12 d0 = 1#1) (fun h => (⟨k0_dev19, k0_dev19_lt d0 h⟩ : Dev nD)) finS <|
  guardSig (k0_cond13 d0 = 1#1) (fun h => (⟨k0_dev20, k0_dev20_lt d0 h⟩ : Dev nD)) finS <|
  guardSig (k0_cond14 d0 = 1#1) (fun h => (⟨k0_dev21, k0_dev21_lt d0 h⟩ : Dev nD)) finS <|
  guardSig (k0_cond15 d0 = 1#1) (fun h => (⟨k0_dev22, k0_dev22_lt d0 h⟩ : Dev nD)) finS <|
  guardSig (k0_cond16 d0 = 1#1) (fun h => (⟨k0_dev23, k0_dev23_lt d0 h⟩ : Dev nD)) finS <|
  (do
    semWaitWord finS 7#32
    pure ⟨⟩)

/-- The seventeenth stretch with its guarded signals in a row. -/
theorem part17_eq (d0 : Dev nD) (v2 x1 x2 : BitVec 32) (y1 y2 : BitVec 1) : k0_part17 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 d0 v2 x1 x2 y1 y2 = (do
    Prog.lift (.waitDma2 ((cc0_scratch6 : DmaSems sig S8).slice (Rect.unit (s := S8) (k0_off1 d0 6#32) S1.size (k0_off1_inb d0 5)) |>.squeeze S_ squeezes_S1_S_).sem
      (rM.slice (Rect.unit (s := S2048x1024) ![0, 0] S256x1024.size inb_S2048x1024_S256x1024_0_0) (fun _ => rfl))
      (sM.slice (Rect.unit (s := S2048x1024) (k0_off4 d0 6#32) S256x1024.size (k0_off4_inb d0 5)) (fun _ => rfl))
      ((Memref.isWhole_whole cc0_scratch3).wordExact_slice rfl _ wordsbf16_S2048x1024_S256x1024_0_0) ((Memref.isWhole_whole cc0_scratch2).wordExact_slice rfl _ (k0_off4_wordsbf16 d0 5)))
    Prog.lift (.waitDma2 ((cc0_scratch6 : DmaSems sig S8).slice (Rect.unit (s := S8) (k0_off1 d0 7#32) S1.size (k0_off1_inb d0 6)) |>.squeeze S_ squeezes_S1_S_).sem
      (rM.slice (Rect.unit (s := S2048x1024) ![0, 0] S256x1024.size inb_S2048x1024_S256x1024_0_0) (fun _ => rfl))
      (sM.slice (Rect.unit (s := S2048x1024) (k0_off4 d0 7#32) S256x1024.size (k0_off4_inb d0 6)) (fun _ => rfl))
      ((Memref.isWhole_whole cc0_scratch3).wordExact_slice rfl _ wordsbf16_S2048x1024_S256x1024_0_0) ((Memref.isWhole_whole cc0_scratch2).wordExact_slice rfl _ (k0_off4_wordsbf16 d0 6)))
    guardSig (k0_cond9 d0 = 1#1) (fun h => (⟨k0_dev16, k0_dev16_lt d0 h⟩ : Dev nD)) finS <|
    guardSig (k0_cond10 d0 = 1#1) (fun h => (⟨k0_dev17, k0_dev17_lt d0 h⟩ : Dev nD)) finS <|
    (pure ⟨⟩)) := rfl

/-- The body's stretches in a row. -/
theorem body_eq : cc0__moe_body (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 = (do
    let ⟨d0, v2⟩ : Σ' (d0 : Dev nD), BitVec 32 ← k0_part1 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0
    let ⟨v29, v49, v50, v74, c32_i32_19⟩ : Σ' (v29 : IVec S2048x1 32) (v49 : IVec S2048x1 32) (v50 : IVec S2048x256 32) (v74 : IVec S2048x256 32), BitVec 32 ← k0_part2 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0
    let ⟨v104, v108, v113, v114, v115⟩ : Σ' (v104 : FVec F S2048x256 .bf16) (v108 : FVec F S256x512 .bf16) (v113 : FVec F S32x1024 .f32) (v114 : FVec F S32x512 .bf16), Vec F S1x512x1024 .f32 ← k0_part3 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 v2 v29 v49 v50 v74 c32_i32_19
    let v150 : FVec F S256x1024 .bf16 ← k0_part4 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 v108 v113 v114 v115
    let ⟨v179, v180, v185⟩ : Σ' (v179 : BitVec 32) (v180 : BitVec 32), BitVec 1 ← k0_part5 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v104 v150
    let ⟨v219, c8_i32_96, v220, c1_i32_98⟩ : Σ' (v219 : BitVec 32) (c8_i32_96 : BitVec 32) (v220 : BitVec 1), BitVec 32 ← k0_part6 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v179 v180 v185
    k0_part7 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v219 c8_i32_96 v220 c1_i32_98
    let ⟨v292, c256_i32_142⟩ : Σ' (v292 : BitVec 32), BitVec 32 ← k0_part8 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2
    let ⟨v306, v328⟩ : Σ' (v306 : FVec F S256x1024 .f32), Vec F S256x1024 .bf16 ← k0_part9 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v292 c256_i32_142
    let ⟨v354, v358, v359, v360, v361, v362⟩ : Σ' (v354 : FVec F S256x1024 .f32) (v358 : BitVec 32) (v359 : BitVec 32) (v360 : BitVec 1) (v361 : BitVec 1), BitVec 1 ← k0_part10 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v306 v328
    let ⟨v378, v390⟩ : Σ' (v378 : FVec F S256x1024 .f32), BitVec 32 ← k0_part11 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v354 v358 v359 v360 v361 v362
    let ⟨v426, v430, v431⟩ : Σ' (v426 : FVec F S256x1024 .f32) (v430 : BitVec 32), BitVec 32 ← k0_part12 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v378 v390
    let ⟨v450, v462⟩ : Σ' (v450 : FVec F S256x1024 .f32), BitVec 32 ← k0_part13 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v426 v430 v431
    let ⟨v494, v495, v496, v497⟩ : Σ' (v494 : BitVec 32) (v495 : BitVec 32) (v496 : BitVec 1), BitVec 1 ← k0_part14 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v450 v462
    let ⟨v526, v527, v528, v529⟩ : Σ' (v526 : BitVec 32) (v527 : BitVec 32) (v528 : BitVec 1), BitVec 1 ← k0_part15 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v494 v495 v496 v497
    let ⟨v558, v559, v560, v561⟩ : Σ' (v558 : BitVec 32) (v559 : BitVec 32) (v560 : BitVec 1), BitVec 1 ← k0_part16 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v526 v527 v528 v529
    k0_part17 riM (Memref.isWhole_whole _) (Memref.whole main_arg0) (Memref.isWhole_whole _) (Memref.whole main_arg3) (Memref.isWhole_whole _) oM (Memref.isWhole_whole _) xM (Memref.isWhole_whole _) wM (Memref.isWhole_whole _) sM (Memref.isWhole_whole _) rM (Memref.isWhole_whole _) cc0_scratch4 cc0_scratch5 cc0_scratch6 cc0_scratch7 cc0_scoped0 d0 v2 v558 v559 v560 v561
    tailP d0) := rfl

theorem wp_part17 (c : Dev nD) {Q} (v2 x1 x2 : BitVec 32) (y1 y2 : BitVec 1) :
    iprop(records m K ∗ levAts L lv ∗ ow c (finO c) ∗ sentRes (F := F) c (tgt c 5) ∗ sentRes (F := F) c (tgt c 6)
        ∗ dutyTok ER (kcell (0, kfin)) 0 c ∗ dutyTok ER (kcell (1, kfin)) 0 c)
      ⊢ iprop(((ow c (owedL 0 (([2, 3, 4, 5, 6, 7] : List (Dev nD)).map (oneT kfin c))) ∗ backRes m c (tgt c 5) ∗ backRes m c (tgt c 6)) -∗ Q ⟨⟩)
          -∗ wpc c (k0_part17 (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0 c v2 x1 x2 y1 y2) Q) := by
  rw [part17_eq]
  simp only [Prog.lift, Prog.bind_op, Prog.bind_ret, Prog.pure_eq_ret]
  iintro ⟨#HR, #HL, HO, C5, C6, T0, T1⟩ Hk
  iapply (wp_sent_blk m K c (tgt c 5) (tgt_ne c 5) (sndS_eq (tgt c 5) (k0_off1 c 6#32) (k0_off1_inb c 5) (off1_eq c 5))
    (dst := sM.slice (Rect.unit (s := S2048x1024) (k0_off4 c 6#32) S256x1024.size (k0_off4_inb c 5)) (fun _ => rfl)) rfl) $$ [HO C5]
  · isplitr; · iexact HR
    isplitr; · iexact HL
    isplitl [HO]; · iexact HO
    iexact C5
  iintro ⟨HO, C5⟩
  iapply (wp_sent_blk m K c (tgt c 6) (tgt_ne c 6) (sndS_eq (tgt c 6) (k0_off1 c 7#32) (k0_off1_inb c 6) (off1_eq c 6))
    (dst := sM.slice (Rect.unit (s := S2048x1024) (k0_off4 c 7#32) S256x1024.size (k0_off4_inb c 6)) (fun _ => rfl)) rfl) $$ [HO C6]
  · isplitr; · iexact HR
    isplitr; · iexact HL
    isplitl [HO]; · iexact HO
    iexact C6
  iintro ⟨HO, C6⟩
  iapply (wp_guard m K c 0 (cond9 c) (fun _ => Fin.ext k0_dev16_eq) kfin rfl
    (fun h => Finset.mem_erase.mpr ⟨h.symm, Finset.mem_univ _⟩) rfl iprop(emp) rfl 0 (([1, 2, 3, 4, 5, 6, 7] : List (Dev nD)).map (oneT kfin c))) $$ [HO T0]
  · isplitr; · iexact HR
    isplitl [HO]; · iexact HO
    isplitl [T0]; · iexact T0
    iempintro
  iintro ⟨HO, -⟩
  iapply (wp_guard m K c 1 (cond10 c) (fun _ => Fin.ext k0_dev17_eq) kfin rfl
    (fun h => Finset.mem_erase.mpr ⟨h.symm, Finset.mem_univ _⟩) rfl iprop(emp) rfl 0 (([2, 3, 4, 5, 6, 7] : List (Dev nD)).map (oneT kfin c))) $$ [HO T1]
  · isplitr; · iexact HR
    isplitl [HO]; · iexact HO
    isplitl [T1]; · iexact T1
    iempintro
  iintro ⟨HO, -⟩
  iapply (wpc_ret c)
  iapply Hk
  isplitl [HO]; · iexact HO
  isplitl [C5]; · iexact C5
  iexact C6

theorem wp_tail (c : Dev nD) {Q : PUnit → sProp 𝕄} :
    iprop(records m K ∗ levAts L lv ∗ ow c (owedL 0 (([2, 3, 4, 5, 6, 7] : List (Dev nD)).map (oneT kfin c)))
        ∗ dutyTok ER (kcell (2, kfin)) 0 c ∗ dutyTok ER (kcell (3, kfin)) 0 c ∗ dutyTok ER (kcell (4, kfin)) 0 c ∗ dutyTok ER (kcell (5, kfin)) 0 c
        ∗ dutyTok ER (kcell (6, kfin)) 0 c ∗ dutyTok ER (kcell (7, kfin)) 0 c
        ∗ cred (tallyAt (kcell (c, kfin)) () 7) ∗ atPos ER (kcell (c, kfin)) 0 ∅ 0)
      ⊢ iprop(((ow c 0 ∗ atPos ER (kcell (c, kfin)) 1 ∅ 0) -∗ Q ⟨⟩) -∗ wpc c (tailP (F := F) c) Q) := by
  unfold tailP
  simp only [semWaitWord, Prog.lift, Prog.bind_op, Prog.bind_ret, Prog.pure_eq_ret]
  iintro ⟨#HR, #HL, HO, T2, T3, T4, T5, T6, T7, Hc, Hat⟩ Hk
  iapply (wp_guard m K c 2 (cond11 c) (fun _ => Fin.ext k0_dev18_eq) kfin rfl
    (fun h => Finset.mem_erase.mpr ⟨h.symm, Finset.mem_univ _⟩) rfl iprop(emp) rfl 0 (([3, 4, 5, 6, 7] : List (Dev nD)).map (oneT kfin c))) $$ [HO T2]
  · isplitr; · iexact HR
    isplitl [HO]; · iexact HO
    isplitl [T2]; · iexact T2
    iempintro
  iintro ⟨HO, -⟩
  iapply (wp_guard m K c 3 (cond12 c) (fun _ => Fin.ext k0_dev19_eq) kfin rfl
    (fun h => Finset.mem_erase.mpr ⟨h.symm, Finset.mem_univ _⟩) rfl iprop(emp) rfl 0 (([4, 5, 6, 7] : List (Dev nD)).map (oneT kfin c))) $$ [HO T3]
  · isplitr; · iexact HR
    isplitl [HO]; · iexact HO
    isplitl [T3]; · iexact T3
    iempintro
  iintro ⟨HO, -⟩
  iapply (wp_guard m K c 4 (cond13 c) (fun _ => Fin.ext k0_dev20_eq) kfin rfl
    (fun h => Finset.mem_erase.mpr ⟨h.symm, Finset.mem_univ _⟩) rfl iprop(emp) rfl 0 (([5, 6, 7] : List (Dev nD)).map (oneT kfin c))) $$ [HO T4]
  · isplitr; · iexact HR
    isplitl [HO]; · iexact HO
    isplitl [T4]; · iexact T4
    iempintro
  iintro ⟨HO, -⟩
  iapply (wp_guard m K c 5 (cond14 c) (fun _ => Fin.ext k0_dev21_eq) kfin rfl
    (fun h => Finset.mem_erase.mpr ⟨h.symm, Finset.mem_univ _⟩) rfl iprop(emp) rfl 0 (([6, 7] : List (Dev nD)).map (oneT kfin c))) $$ [HO T5]
  · isplitr; · iexact HR
    isplitl [HO]; · iexact HO
    isplitl [T5]; · iexact T5
    iempintro
  iintro ⟨HO, -⟩
  iapply (wp_guard m K c 6 (cond15 c) (fun _ => Fin.ext k0_dev22_eq) kfin rfl
    (fun h => Finset.mem_erase.mpr ⟨h.symm, Finset.mem_univ _⟩) rfl iprop(emp) rfl 0 (([7] : List (Dev nD)).map (oneT kfin c))) $$ [HO T6]
  · isplitr; · iexact HR
    isplitl [HO]; · iexact HO
    isplitl [T6]; · iexact T6
    iempintro
  iintro ⟨HO, -⟩
  iapply (wp_guard m K c 7 (cond16 c) (fun _ => Fin.ext k0_dev23_eq) kfin rfl
    (fun h => Finset.mem_erase.mpr ⟨h.symm, Finset.mem_univ _⟩) rfl iprop(emp) rfl 0 ([])) $$ [HO T7]
  · isplitr; · iexact HR
    isplitl [HO]; · iexact HO
    isplitl [T7]; · iexact T7
    iempintro
  iintro ⟨HO, -⟩
  iapply (wp_wait m K c kfin (sm := .reg finS) rfl (k' := (7#32 : BitVec 32).toInt.toNat)
    (wpE_semWait_eq 𝒱₀ (c : Thread nD τ) none Set.univ) (by rw [show (dutK c (some kfin)).card = 7 from card_others c]; rfl) 0 3 (Nat.le_refl _) (above_zero 3)) $$ [Hc HO Hat]
  · isplitr; · iexact HR
    isplitr; · iexact HL
    isplitl [Hc]; · iexact Hc
    isplitl [HO]; · iexact HO
    iexact Hat
  iintro ⟨HO, Hat, -⟩
  iapply (wpc_ret c)
  iapply Hk
  isplitl [HO]; · iexact HO
  iexact Hat

end Cert.MoeRun

end
-- ==== Proof.Body.lean ====
/-
# The body from its start to its end, and the pipeline's obligation
-/
module

public import proofs.«01_k».proof.Proof.Part3

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## What a core starts from and ends with -/

/-- The core is at the start of its cells' one round. -/
def atAll (c : Dev nD) : sProp 𝕄 := bigSep Finset.univ fun k : Kd => atPos ER (kcell (c, k)) 0 ∅ 0

/-- The tokens of the duties core `c` pays. -/
def tokens (c : Dev nD) : sProp 𝕄 :=
  iprop((bigSep Finset.univ fun j : Dev nD => dutyTok ER (kcell (j, kbar)) 0 c)
    ∗ (bigSep Finset.univ fun j : Dev nD => dutyTok ER (kcell (j, kfin)) 0 c)
    ∗ dutyTok ER (kcell (c, kxs)) 0 c ∗ dutyTok ER (kcell (c, kws)) 0 c
    ∗ (bigSep Finset.univ fun r : Fin 7 => dutyTok ER (kcell (c, ksnd (tgt c r))) 0 c)
    ∗ bigSep Finset.univ fun r : Fin 7 => dutyTok ER (kcell (tgt c r, krcv c)) 0 c)

/-- The credits a core starts with: what the other cores owe its cells. -/
def credits (c : Dev nD) : sProp 𝕄 :=
  iprop(cred (tallyAt (kcell (c, kbar)) () 7) ∗ cred (tallyAt (kcell (c, kfin)) () 7)
    ∗ bigSep Finset.univ fun r : Fin 7 => cred (tallyAt (kcell (c, krcv (sdr c r))) () N))

/-- The copied arrays. -/
def args (c : Dev nD) : sProp 𝕄 :=
  iprop(own c main_arg0 (m ((c : Thread nD τ).loc main_arg0)) ∗ own c main_arg3 (m ((c : Thread nD τ).loc main_arg3)))

/-- The four scratch buffers, at some contents. -/
def scr (c : Dev nD) : sProp 𝕄 :=
  iprop((∃ f, own (F := F) c cc0_scratch0 f) ∗ (∃ f, own (F := F) c cc0_scratch1 f) ∗ (∃ f, own (F := F) c cc0_scratch2 f) ∗ ∃ f, own (F := F) c cc0_scratch3 f)

def start (c : Dev nD) : sProp 𝕄 :=
  iprop((∃ K, records m K ∗ atAll (F := F) c ∗ tokens (F := F) c) ∗ credits (F := F) c ∗ levAts L lv ∗ args m c)

def Φ₀ (c : Dev nD) : sProp 𝕄 := iprop(start m c ∗ scr (F := F) c)
def Φ₁ (c : Dev nD) : sProp 𝕄 :=
  iprop(scr (F := F) c ∗ (bigSep Finset.univ fun k : Kd => semVal (kcell (c, k)) 0) ∗ args m c)

/-- A family over the cells of a core, by kinds. -/
theorem bigSep_kd (c : Dev nD) (Φ : Kd → sProp 𝕄) :
    bigSep Finset.univ Φ = iprop(Φ kbar ∗ (Φ kfin ∗ Φ kxs ∗ Φ kws) ∗ (Φ (ksnd c) ∗ bigSep Finset.univ fun r : Fin 7 => Φ (ksnd (tgt c r)))
      ∗ Φ (krcv c) ∗ bigSep Finset.univ fun r : Fin 7 => Φ (krcv (sdr c r))) := by
  rw [bigSep_univ_sum, bigSep_univ_sum, bigSep_univ_sum, bigSep_univ_eq_bigSepL [()] (by decide) (by decide),
    bigSep_univ_eq_bigSepL [(0 : Fin 3), 1, 2] (by decide) (by decide),
    bigSep_erase (Finset.mem_univ c) (Φ := fun j : Dev nD => Φ (.inr (.inr (.inl j)))), bigSep_tgt,
    bigSep_erase (Finset.mem_univ c) (Φ := fun j : Dev nD => Φ (.inr (.inr (.inr j)))), bigSep_sdr]
  rfl

/-- A cell at a round from which it has no duties. -/
def over (c : Dev nD) (k : Kd) : sProp 𝕄 :=
  iprop(∃ R, ⌜∀ r, R ≤ r → (Rd m).duties (kcell (c, k)) r = ∅⌝ ∗ atPos ER (kcell (c, k)) R ∅ 0)

theorem over_one (c : Dev nD) (k : Kd) : atPos ER (kcell (c, k)) 1 ∅ 0 ⊢ over m c k := by
  unfold over
  iintro H
  iexists 1
  isplitr; · ipureintro; exact duties_later m _
  iexact H
theorem over_zero (c : Dev nD) (k : Kd) (h : dutK c (some k) = ∅) : atPos ER (kcell (c, k)) 0 ∅ 0 ⊢ over m c k := by
  unfold over
  iintro H
  iexists 0
  isplitr
  · ipureintro
    intro r _
    rcases r with _ | r
    · rw [duties_at, h]
    · exact duties_later m _ _ (by omega)
  iexact H

theorem close_one (c : Dev nD) (k : Kd) : iprop(records m K ∗ over m c k) ⊢ |={Set.univ}=> semVal (kcell (c, k)) 0 := by
  unfold over
  iintro ⟨#HR, %R, %hR, H⟩
  iapply (Rounds.cell_close ER (Rd m) (Set.mem_univ (K (c, k))) (fun h => h) (R := R) hR)
  isplitr; · iapply (rec_inv m K (c, k)); iexact HR
  iexact H

theorem with_records {I : Type} [DecidableEq I] {S : Finset I} {Φ Ψ : I → sProp 𝕄}
    (h : ∀ i ∈ S, iprop(records m K ∗ Φ i) ⊢ Ψ i) : iprop(records m K ∗ bigSep S Φ) ⊢ bigSep S Ψ :=
  (sep_mono_left (BI.bigSep_of_persistent S (records m K))).trans (by rw [← bigSep_sep']; exact bigSep_mono h)

/-- Every cell of a core closes: its counter is zero. -/
theorem close_all (c : Dev nD) :
    iprop(records m K ∗ bigSep Finset.univ fun k : Kd => over m c k) ⊢ |={Set.univ}=> bigSep Finset.univ fun k : Kd => semVal (kcell (c, k)) 0 :=
  (with_records m K fun k _ => close_one m K c k).trans (bigSep_fupd _ _)

/-! ## The body -/

/-- A family over the devices: the core's own member first, then the others by the order of sends (of receipts). -/
theorem own_first (c : Dev nD) (Φ : Dev nD → sProp 𝕄) :
    bigSep Finset.univ Φ = iprop(Φ c ∗ bigSep Finset.univ fun r : Fin 7 => Φ (tgt c r)) := by
  rw [bigSep_erase (Finset.mem_univ c), bigSep_tgt]; rfl
theorem own_first' (c : Dev nD) (Φ : Dev nD → sProp 𝕄) :
    bigSep Finset.univ Φ = iprop(Φ c ∗ bigSep Finset.univ fun r : Fin 7 => Φ (sdr c r)) := by
  rw [bigSep_erase (Finset.mem_univ c), bigSep_sdr]; rfl

/-- A stretch may end in an update. -/
theorem wpc_fupd (c : Dev nD) {α : Type} {p : Prog (TpuEff nD τ sig (Elt F) Λ₀ .tc) α} {Q : α → sProp 𝕄} :
    wpc c p (fun a => iprop(|={Set.univ}=> Q a)) ⊢ wpc c p Q := by
  unfold wpc
  exact wp_fupd _ _ _ p Q

/-- A stretch and what follows it. -/
theorem wpc_bind (c : Dev nD) {α β : Type} {p : Prog (TpuEff nD τ sig (Elt F) Λ₀ .tc) α} {k : α → Prog (TpuEff nD τ sig (Elt F) Λ₀ .tc) β} {Q : β → sProp 𝕄} :
    wpc c p (fun a => wpc c (k a) Q) ⊢ wpc c (p >>= k) Q := by
  unfold wpc
  rw [wp_bind]

/-- The barrier's tokens with the landing buffer's blocks. -/
theorem bar_intro (c : Dev nD) (f : Buf (Elt F) ((c : Thread nD τ).loc cc0_scratch3)) :
    iprop((bigSep Finset.univ fun j : Dev nD => dutyTok ER (kcell (j, kbar)) 0 c) ∗ bigSep Finset.univ fun j : Dev nD => rPts (F := F) c j f)
      ⊢ bigSep Finset.univ fun j : Dev nD => barRes (F := F) c j := by
  rw [← bigSep_sep']
  refine bigSep_mono fun j _ => ?_
  unfold barRes
  show iprop(dutyTok ER (kcell (j, kbar)) 0 c ∗ rPts (F := F) c j f) ⊢ iprop(dutyTok ER (kcell (j, kbar)) 0 c ∗ ∃ f, rPts (F := F) c j f)
  iintro ⟨H1, H2⟩
  isplitl [H1]; · iexact H1
  iexists f; iexact H2

set_option maxHeartbeats 1600000 in
/-- The body on core `c`, from what it is given to what it leaves. -/
theorem sound_body (c : Dev nD) (Kt : PUnit → sProp 𝕄) (fx fw fs fr fo) :
    iprop(records m K ∗ levAts L lv ∗ atAll (F := F) c ∗ tokens (F := F) c ∗ credits (F := F) c ∗ args m c
        ∗ own (F := F) c cc0_scratch0 fx ∗ own (F := F) c cc0_scratch1 fw ∗ own (F := F) c cc0_scratch2 fs ∗ own (F := F) c cc0_scratch3 fr
        ∗ ow c (O₀ c) ∗ own c cc0_stg0_0 (riC m c) ∗ own (F := F) c cc0_stg1_0 fo)
      ⊢ iprop(((Φ₁ m c ∗ ow c 0 ∗ own c cc0_stg0_0 (riC m c) ∗ own c cc0_stg1_0 (outAt m c)) -∗ Kt ⟨⟩)
          -∗ wpc c (cc0__moe_body (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0) Kt) := by
  rw [body_eq]
  unfold atAll tokens credits args
  rw [bigSep_kd c, r_blocks, bigSep_off (fun r => cred (tallyAt (kcell (c, krcv (sdr c r))) () N)),
    bigSep_off (fun r => atPos ER (kcell (c, ksnd (tgt c r))) 0 ∅ 0), bigSep_off (fun r => atPos ER (kcell (c, krcv (sdr c r))) 0 ∅ 0),
    bigSep_dev (fun j => dutyTok ER (kcell (j, kfin)) 0 c)]
  iintro ⟨#HR, #HL, ⟨Abar, ⟨Afin, Axs, Aws⟩, ⟨Asc, AS0, AS1, AS2, AS3, AS4, AS5, AS6⟩, Arc, AR0, AR1, AR2, AR3, AR4, AR5, AR6⟩,
    ⟨Tbar, ⟨T0, T1, T2, T3, T4, T5, T6, T7⟩, Txs, Tws, Tsnd, Trcv⟩,
    ⟨Cbar, Cfin, CR0, CR1, CR2, CR3, CR4, CR5, CR6⟩, ⟨H0, H3⟩, Hx, Hw, Hs, Hr, HO, Hri, Ho⟩ Hk
  -- the copies start, the barrier
  iapply (wpc_bind c)
  iapply (wp_part1 m K c fx fw) $$ [Abar Txs Tws Tbar Cbar H0 H3 Hx Hw Hr HO]
  · isplitr; · iexact HR
    isplitr; · iexact HL
    isplitl [H0 Hx Txs]
    · isplitl [H0]; · iexact H0
      isplitl [Hx] <;> iassumption
    isplitl [H3 Hw Tws]
    · isplitl [H3]; · iexact H3
      isplitl [Hw] <;> iassumption
    isplitl [HO]; · iexact HO
    isplitl [Tbar Hr]
    · iapply (bar_intro c fr)
      isplitl [Tbar] <;> iassumption
    isplitl [Cbar] <;> iassumption
  iintro ⟨Cxs, Cws, HO, Abar, Hrc, Hrr⟩
  try dsimp only []
  -- the routing
  iapply (wpc_bind c)
  iapply (wp_part2 c (riC m c)) $$ Hri
  iintro Hri
  try dsimp only []
  -- the copies in
  iapply (wpc_bind c)
  iapply (wp_part3 m K c (devW c) (k0_pay1 (F := F) (riC m c)) (k0_pay2 (F := F) (riC m c)) slotIota k0_pay3 32#32) $$ [HO Cxs Cws Axs Aws]
  · isplitr; · iexact HR
    isplitr; · iexact HL
    isplitl [HO]; · iexact HO
    unfold inRes
    isplitl [Cxs Axs]
    · isplitl [Cxs] <;> iassumption
    isplitl [Cws] <;> iassumption
  unfold inGot
  iintro ⟨HO, ⟨⟨Hx, H0, Axs⟩, H3, Aws⟩, Hw⟩
  try dsimp only []
  iapply (wpc_bind c)
  iapply (wp_part4 c _ _ _ _ (wC m c)) $$ Hw
  iintro Hw
  try dsimp only []
  -- the sends
  iapply (wpc_bind c)
  iapply (wp_part5 m K c _ _ _ rfl fs) $$ [HO Hs Hrr Tsnd Trcv]
  · isplitr; · iexact HR
    isplitl [HO]; · iexact HO
    isplitl [Hs]; · iexact Hs
    unfold sendTok
    isplitl [Hrr]; · iexact Hrr
    isplitl [Tsnd] <;> iassumption
  iintro %r5 ⟨HO, C0, Hown, S1, S2, S3, S4, S5, S6⟩
  try dsimp only []
  iapply (wpc_bind c)
  iapply (wp_part6 m K c _ _ _ _) $$ [HO S1 S2]
  · isplitr; · iexact HR
    isplitl [HO]; · iexact HO
    isplitl [S1] <;> iassumption
  iintro %r6 ⟨HO, C1, C2⟩
  try dsimp only []
  iapply (wpc_bind c)
  iapply (wp_part7 m K c _ _ _ _ _) $$ [HO S3]
  · isplitr; · iexact HR
    isplitl [HO] <;> iassumption
  iintro ⟨HO, C3⟩
  try dsimp only []
  iapply (wpc_bind c)
  iapply (wp_part8 m K c _) $$ [HO S4 S5]
  · isplitr; · iexact HR
    isplitl [HO]; · iexact HO
    isplitl [S4] <;> iassumption
  iintro %r8 ⟨HO, C4, C5⟩
  try dsimp only []
  -- the receipts
  iapply (wpc_bind c)
  iapply (wp_part9 m K c _ _ _) $$ [HO S6 Hown CR0 AR0]
  · isplitr; · iexact HR
    isplitr; · iexact HL
    isplitl [HO]; · iexact HO
    isplitl [S6]; · iexact S6
    isplitl [Hown]; · iexact Hown
    unfold recvRes
    isplitl [CR0] <;> iassumption
  iintro ⟨HO, C6, Hown, G0⟩
  try dsimp only []
  iapply (wpc_bind c)
  iapply (wp_part10 m K c _ _ _) $$ [HO CR1 AR1]
  · isplitr; · iexact HR
    isplitr; · iexact HL
    isplitl [HO]; · iexact HO
    unfold recvRes
    isplitl [CR1] <;> iassumption
  iintro %w10_0 %w10_1 %w10_2 %w10_3 %w10_4 ⟨HO, G1⟩
  try dsimp only []
  iapply (wpc_bind c)
  iapply (wp_part11 m K c _ _ _ _ _ _ _) $$ [HO CR2 AR2]
  · isplitr; · iexact HR
    isplitr; · iexact HL
    isplitl [HO]; · iexact HO
    unfold recvRes
    isplitl [CR2] <;> iassumption
  iintro %w11_0 ⟨HO, G2⟩
  try dsimp only []
  iapply (wpc_bind c)
  iapply (wp_part12 m K c _ _ _) $$ [HO CR3 AR3 CR4 AR4]
  · isplitr; · iexact HR
    isplitr; · iexact HL
    isplitl [HO]; · iexact HO
    unfold recvRes
    isplitl [CR3 AR3]
    · isplitl [CR3] <;> iassumption
    isplitl [CR4] <;> iassumption
  iintro %w12_0 %w12_1 ⟨HO, G3, G4⟩
  try dsimp only []
  iapply (wpc_bind c)
  iapply (wp_part13 m K c _ _ _ _) $$ [HO CR5 AR5]
  · isplitr; · iexact HR
    isplitr; · iexact HL
    isplitl [HO]; · iexact HO
    unfold recvRes
    isplitl [CR5] <;> iassumption
  iintro %w13_0 ⟨HO, G5⟩
  try dsimp only []
  iapply (wpc_bind c)
  iapply (wp_part14 m K c _ _ _ fo) $$ [HO CR6 AR6 Ho C0 AS0]
  · isplitr; · iexact HR
    isplitr; · iexact HL
    isplitl [HO]; · iexact HO
    isplitl [CR6 AR6]
    · unfold recvRes
      isplitl [CR6] <;> iassumption
    isplitl [Ho]; · iexact Ho
    unfold sentRes
    isplitl [C0] <;> iassumption
  iintro %r14 ⟨HO, G6, Ho, B0⟩
  try dsimp only []
  iapply (wpc_bind c)
  iapply (wp_part15 m K c _ _ _ _ _) $$ [HO C1 AS1 C2 AS2]
  · isplitr; · iexact HR
    isplitr; · iexact HL
    isplitl [HO]; · iexact HO
    unfold sentRes
    isplitl [C1 AS1]
    · isplitl [C1] <;> iassumption
    isplitl [C2] <;> iassumption
  iintro %r15 ⟨HO, B1, B2⟩
  try dsimp only []
  iapply (wpc_bind c)
  iapply (wp_part16 m K c _ _ _ _ _) $$ [HO C3 AS3 C4 AS4]
  · isplitr; · iexact HR
    isplitr; · iexact HL
    isplitl [HO]; · iexact HO
    unfold sentRes
    isplitl [C3 AS3]
    · isplitl [C3] <;> iassumption
    isplitl [C4] <;> iassumption
  iintro %r16 ⟨HO, B3, B4⟩
  try dsimp only []
  iapply (wpc_bind c)
  iapply (wp_part17 m K c _ _ _ _ _) $$ [HO C5 AS5 C6 AS6 T0 T1]
  · isplitr; · iexact HR
    isplitr; · iexact HL
    isplitl [HO]; · iexact HO
    unfold sentRes
    isplitl [C5 AS5]
    · isplitl [C5] <;> iassumption
    isplitl [C6 AS6]
    · isplitl [C6] <;> iassumption
    isplitl [T0] <;> iassumption
  iintro ⟨HO, B5, B6⟩
  iapply (wpc_fupd c)
  iapply (wp_tail m K c) $$ [HO T2 T3 T4 T5 T6 T7 Cfin Afin]
  · isplitr; · iexact HR
    isplitr; · iexact HL
    isplitl [HO]; · iexact HO
    isplitl [T2]; · iexact T2
    isplitl [T3]; · iexact T3
    isplitl [T4]; · iexact T4
    isplitl [T5]; · iexact T5
    isplitl [T6]; · iexact T6
    isplitl [T7]; · iexact T7
    isplitl [Cfin] <;> iassumption
  iintro ⟨HO, Afin⟩
  -- every cell closes
  unfold gotRes backRes
  icases G0 with ⟨R0, AR0⟩
  icases G1 with ⟨R1, AR1⟩
  icases G2 with ⟨R2, AR2⟩
  icases G3 with ⟨R3, AR3⟩
  icases G4 with ⟨R4, AR4⟩
  icases G5 with ⟨R5, AR5⟩
  icases G6 with ⟨R6, AR6⟩
  icases B0 with ⟨B0, AS0⟩
  icases B1 with ⟨B1, AS1⟩
  icases B2 with ⟨B2, AS2⟩
  icases B3 with ⟨B3, AS3⟩
  icases B4 with ⟨B4, AS4⟩
  icases B5 with ⟨B5, AS5⟩
  icases B6 with ⟨B6, AS6⟩
  imod (close_all m K c) $$ [Abar Afin Axs Aws Asc AS0 AS1 AS2 AS3 AS4 AS5 AS6 Arc AR0 AR1 AR2 AR3 AR4 AR5 AR6] with Hz
  · isplitr; · iexact HR
    rw [bigSep_kd c, bigSep_off (fun r => over m c (ksnd (tgt c r))), bigSep_off (fun r => over m c (krcv (sdr c r)))]
    isplitl [Abar]; · iapply (over_one m c kbar); iexact Abar
    isplitl [Afin Axs Aws]
    · isplitl [Afin]; · iapply (over_one m c kfin); iexact Afin
      isplitl [Axs]; · iapply (over_one m c kxs); iexact Axs
      iapply (over_one m c kws); iexact Aws
    isplitl [Asc AS0 AS1 AS2 AS3 AS4 AS5 AS6]
    · isplitl [Asc]; · iapply (over_zero m c (ksnd c) (if_pos rfl)); iexact Asc
      isplitl [AS0]; · iapply (over_one m c (ksnd (tgt c 0))); iexact AS0
      isplitl [AS1]; · iapply (over_one m c (ksnd (tgt c 1))); iexact AS1
      isplitl [AS2]; · iapply (over_one m c (ksnd (tgt c 2))); iexact AS2
      isplitl [AS3]; · iapply (over_one m c (ksnd (tgt c 3))); iexact AS3
      isplitl [AS4]; · iapply (over_one m c (ksnd (tgt c 4))); iexact AS4
      isplitl [AS5]; · iapply (over_one m c (ksnd (tgt c 5))); iexact AS5
      iapply (over_one m c (ksnd (tgt c 6))); iexact AS6
    isplitl [Arc]; · iapply (over_zero m c (krcv c) (if_pos rfl)); iexact Arc
    isplitl [AR0]; · iapply (over_one m c (krcv (sdr c 0))); iexact AR0
    isplitl [AR1]; · iapply (over_one m c (krcv (sdr c 1))); iexact AR1
    isplitl [AR2]; · iapply (over_one m c (krcv (sdr c 2))); iexact AR2
    isplitl [AR3]; · iapply (over_one m c (krcv (sdr c 3))); iexact AR3
    isplitl [AR4]; · iapply (over_one m c (krcv (sdr c 4))); iexact AR4
    isplitl [AR5]; · iapply (over_one m c (krcv (sdr c 5))); iexact AR5
    iapply (over_one m c (krcv (sdr c 6))); iexact AR6
  imodintro
  iapply Hk
  unfold Φ₁ scr args
  isplitr [HO Hri Ho]
  · isplitr [Hz H0 H3]
    · isplitl [Hx]; · iexists (xC m c); iexact Hx
      isplitl [Hw]; · iexists (wC m c); iexact Hw
      isplitl [Hown B0 B1 B2 B3 B4 B5 B6]
      · iexists (sbuf m c)
        rw [s_blocks, own_first c (fun j => sPts c j (sbuf m c)), bigSep_off (fun r => sPts c (tgt c r) (sbuf m c))]
        isplitl [Hown]; · iexact Hown
        isplitl [B0]; · iexact B0
        isplitl [B1]; · iexact B1
        isplitl [B2]; · iexact B2
        isplitl [B3]; · iexact B3
        isplitl [B4]; · iexact B4
        isplitl [B5]; · iexact B5
        iexact B6
      · iapply (r_join c fr)
        rw [own_first' c (fun j => iprop(∃ f, rPts (F := F) c j f)), bigSep_off (fun r => iprop(∃ f, rPts (F := F) c (sdr c r) f))]
        isplitl [Hrc]; · iexact Hrc
        isplitl [R0]; · iexact R0
        isplitl [R1]; · iexact R1
        isplitl [R2]; · iexact R2
        isplitl [R3]; · iexact R3
        isplitl [R4]; · iexact R4
        isplitl [R5]; · iexact R5
        iexact R6
    isplitl [Hz]; · iexact Hz
    isplitl [H0] <;> iassumption
  isplitl [HO]; · iexact HO
  isplitl [Hri]; · iexact Hri
  iexact Ho

end Cert.MoeRun

end
-- ==== Proof.Launch.lean ====
/-
# The launch: the pipeline's data, the ghost state dealt, and the run from any memory
-/
module

public import proofs.«01_k».proof.Proof.Body
public import proofs.«01_k».proof.Proof.Gen.KernelIdeal.Points
public import Idealize.ShloMosaic.Lib.Pipeline.CollectiveSegs

@[expose] public section

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's one point -/

/-- What the pipeline's windows hold before and after the one point; what the body keeps beside them. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => riC m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_win (Φ : Fin cfg0.W → sProp 𝕄) : bigSep Finset.univ Φ = iprop(Φ (0 : Fin 2) ∗ Φ (1 : Fin 2)) := bigSep_W0 Φ

theorem whole_owns (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def ptPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def ptPost (c : Dev nD) : sProp 𝕄 :=
  iprop(Φ₁ m c ∗ (dats m ρ 0 c).owesAt () t0_0.succ ∗ stg c cc0_stg0_0 (riC m c) ∗ stg c cc0_stg1_0 (outAt m c))

set_option maxRecDepth 4000 in
/-- The body meets what the pipeline asks of it at its one point. -/
theorem body_meets (c : Dev nD) : BodyObligation (dats (F := F) m ρ 0 c) (defs₀ (F := F)) 𝒱₀ () Set.univ := fun t => by
  rw [fin_N0 t]
  rw [bigSep_win, bigSep_win]
  simp only [whole_owns]
  show ptPre m ρ c ⊢ wpc c (cc0__moe_body (F := F) riM (Memref.isWhole_whole _) (Memref.whole main_arg0) (Memref.isWhole_whole _) (Memref.whole main_arg3) (Memref.isWhole_whole _)
      oM (Memref.isWhole_whole _) xM (Memref.isWhole_whole _) wM (Memref.isWhole_whole _) sM (Memref.isWhole_whole _)
      rM (Memref.isWhole_whole _) cc0_scratch4 cc0_scratch5 cc0_scratch6 cc0_scratch7 cc0_scoped0) (fun _ => ptPost m ρ c)
  unfold ptPre Φ₀ start scr
  iintro ⟨⟨⟨⟨%K, HR, Hat, Htok⟩, Hcr, Hlev, Hargs⟩, ⟨%fx, Hx⟩, ⟨%fw, Hw⟩, ⟨%fs, Hs⟩, ⟨%fr, Hr⟩⟩, Ho, ⟨%d0, %g0, %hg0, Hri⟩, ⟨%d1, %g1, %hg1, Hout⟩⟩
  have hx : g0 = riC m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (sound_body m K c (fun _ => ptPost m ρ c) fx fw fs fr g1) $$ [HR Hat Htok Hcr Hlev Hargs Hx Hw Hs Hr HO Hri Hout]
  · isplitl [HR]; · iexact HR
    isplitl [Hlev]; · iexact Hlev
    isplitl [Hat]; · iexact Hat
    isplitl [Htok]; · iexact Htok
    isplitl [Hcr]; · iexact Hcr
    isplitl [Hargs]; · iexact Hargs
    isplitl [Hx]; · iexact Hx
    isplitl [Hw]; · iexact Hw
    isplitl [Hs]; · iexact Hs
    isplitl [Hr]; · iexact Hr
    isplitl [HO]; · unfold ow; iexists W; iexact HO
    isplitl [Hri] <;> iassumption
  iintro ⟨HΦ, HO, Hri, Hout⟩
  unfold ptPost Dat.owesAt Pipeline.owesWithin ow
  rw [show (dats m ρ 0 c).owed t0_0.succ = 0 from rfl]
  icases HO with ⟨%W', HO⟩
  isplitl [HΦ]; · iexact HΦ
  isplitl [HO]
  · iexists W'
    isplitr; · ipureintro; exact fun _ _ => Or.inl trivial
    iexact HO
  isplitl [Hri]
  · iexists _; isplitr; · (ipureintro; rfl)
    iexact Hri
  iexists _; isplitr; · (ipureintro; rfl)
  iexact Hout

/-! ## The ghost state dealt -/

theorem own_sems : Pipeline.OwnSemFacts cfg0.spec osem := by decide +kernel

theorem full_share (c : Dev nD) (w : Fin cfg0.W) : (dats m ρ 0 c).share w = fullShare := by unfold Dat.share; split <;> rfl

/-- Every cell of every device; a token per cell and payer. -/
def cells : Finset (GSem nD τ sig) := Finset.univ.map ⟨kcell, kcell_injective⟩
def tokKey (x : (Dev nD × Kd) × Dev nD) : GSem nD τ sig × ℕ × Dev nD := (kcell x.1, 0, x.2)
theorem tokKey_injective : Function.Injective tokKey := by
  rintro ⟨a, d⟩ ⟨b, e⟩ h
  have h1 := kcell_injective (congrArg (fun x : GSem nD τ sig × ℕ × Dev nD => x.1) h)
  have h2 : d = e := congrArg (fun x : GSem nD τ sig × ℕ × Dev nD => x.2.2) h
  exact Prod.ext h1 h2
def cellToks : Finset (GSem nD τ sig × ℕ × Dev nD) := Finset.univ.map ⟨tokKey, tokKey_injective⟩

/-- The launch's ghost element: the pipeline's and the protocol's. -/
def u₀ : UU := (initOf (Pipeline.cells cfgs cellOf_inj) (Pipeline.launchToks cfgs cellOf_inj), initOf cells cellToks)

/-- The tokens of device `c`'s cells, every payer's. -/
def toksOf (c : Dev nD) : sProp 𝕄 :=
  bigSep Finset.univ fun k : Kd => bigSep Finset.univ fun d : Dev nD => dutyTok ER (kcell (c, k)) 0 d

/-- What a device is dealt; what it has once the cells are shared. -/
def dealt (c : Dev nD) : sProp 𝕄 :=
  iprop((bigSep Finset.univ fun k : Kd => roundState ER (Rd m) (kcell (c, k)) 0)
    ∗ ((bigSep Finset.univ fun k : Kd => atPos ER (kcell (c, k)) 0 ∅ 0) ∗ (bigSep Finset.univ fun k : Kd => reached ER (kcell (c, k)) 0)) ∗ toksOf c)
def shared (c : Dev nD) : sProp 𝕄 := iprop(∃ K, records m K ∗ atAll (F := F) c ∗ tokens (F := F) c)

theorem deal : BI.own (ER (initOf cells cellToks)) ⊢ (|==> bigSep Finset.univ (dealt m) : sProp 𝕄) := by
  have hX (Φ : GSem nD τ sig → sProp 𝕄) : bigSep cells Φ = bigSep Finset.univ fun c : Dev nD => bigSep Finset.univ fun k : Kd => Φ (kcell (c, k)) := by
    unfold cells; rw [bigSep_map, bigSep_univ_prod]; rfl
  have hT : bigSep cellToks (fun x => (dutyTok ER x.1 x.2.1 x.2.2 : sProp 𝕄)) = bigSep Finset.univ fun c : Dev nD => toksOf c := by
    unfold cellToks; rw [bigSep_map, bigSep_univ_prod, bigSep_univ_prod]; rfl
  iintro HX
  imod (Rounds.fund ER (Rd m) cells cellToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

theorem unscoped_sems (c : Dev nD) : (unscopedSems0 c : sProp 𝕄) = semVal (kcell (c, kbar)) 0 := by
  unfold unscopedSems0; rw [bigSep_eq_bigSepL_of_eq [SemLoc.reg barS] (by decide) (by decide)]; rfl

/-- The counters of a device's cells: the barrier's and the kernel's own. -/
theorem sems_eq (c : Dev nD) :
    (bigSep Finset.univ fun k : Kd => semVal (kcell (c, k)) 0 : sProp 𝕄)
      = iprop(unscopedSems0 c ∗ Pipeline.ownSems0 (Ix := Unit) (Name := ℕ) (U := UU) (Lvl := ℕ) (Val := Elt F) (τ := τ) osem c) := by
  rw [unscoped_sems, bigSep_univ_sum, bigSep_univ_eq_bigSepL [()] (by decide) (by decide)]; rfl

theorem alloc_core (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Kd => iprop(∃ κ : ℕ, cellInv ER (Rd m) κ (kcell (c, k))))
          ∗ ((bigSep Finset.univ fun k : Kd => atPos ER (kcell (c, k)) 0 ∅ 0) ∗ (bigSep Finset.univ fun k : Kd => reached ER (kcell (c, k)) 0)) ∗ toksOf c) := by
  unfold dealt
  iintro ⟨Hos, Hus, Hst, Hat, Htok⟩
  ihave Hv := (Entails.of_eq (sems_eq (F := F) c).symm) $$ [Hos Hus]
  · isplitl [Hus] <;> iassumption
  imod (show iprop((bigSep Finset.univ fun k : Kd => semVal (kcell (c, k)) 0) ∗ bigSep Finset.univ fun k : Kd => roundState ER (Rd m) (kcell (c, k)) 0)
      ⊢ (|={Set.univ}=> bigSep Finset.univ fun k : Kd => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over pairs, summed either way. -/
theorem bigSep_swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1),
    bigSep_univ_equiv (Equiv.prodComm J I) (fun x : I × J => Φ x.1 x.2)]
  rfl

/-- The tokens dealt over: from the cells' owners to the payers. -/
theorem toks_over : (bigSep Finset.univ fun c : Dev nD => (toksOf c : sProp 𝕄)) ⊢ bigSep Finset.univ fun d : Dev nD => tokens d := by
  have h1 : (bigSep Finset.univ fun c : Dev nD => (toksOf c : sProp 𝕄))
      = bigSep Finset.univ fun d : Dev nD => bigSep Finset.univ fun k : Kd => bigSep Finset.univ fun c : Dev nD => dutyTok ER (kcell (c, k)) 0 d := by
    unfold toksOf
    rw [bigSep_swap, bigSep_swap (fun (d : Dev nD) (k : Kd) => bigSep Finset.univ fun c : Dev nD => (dutyTok ER (kcell (c, k)) 0 d : sProp 𝕄))]
    exact bigSep_congr fun k _ => bigSep_swap _
  rw [h1]
  refine bigSep_mono fun d _ => ?_
  have hel (k : Kd) : (bigSep Finset.univ fun c : Dev nD => (dutyTok ER (kcell (c, k)) 0 d : sProp 𝕄)) ⊢ dutyTok ER (kcell (d, k)) 0 d :=
    bigSep_elim (Finset.mem_univ d)
  have hsnd : (bigSep Finset.univ fun r : Fin 7 => bigSep Finset.univ fun c : Dev nD => (dutyTok ER (kcell (c, ksnd (tgt d r))) 0 d : sProp 𝕄))
      ⊢ bigSep Finset.univ fun r : Fin 7 => dutyTok ER (kcell (d, ksnd (tgt d r))) 0 d := bigSep_mono fun r _ => hel _
  show _ ⊢ tokens (F := F) d
  rw [bigSep_kd d, own_first d (fun c => dutyTok ER (kcell (c, krcv d)) 0 d)]
  unfold tokens
  iintro ⟨Hb, ⟨Hf, Hx, Hw⟩, ⟨-, Hs⟩, ⟨-, Hr⟩, -⟩
  isplitl [Hb]; · iexact Hb
  isplitl [Hf]; · iexact Hf
  isplitl [Hx]; · iapply (hel kxs); iexact Hx
  isplitl [Hw]; · iapply (hel kws); iexact Hw
  isplitl [Hs]; · iapply hsnd; iexact Hs
  iexact Hr

theorem shared_intro (K : Dev nD × Kd → ℕ) (c : Dev nD) : iprop(records m K ∗ (atAll (F := F) c ∗ tokens (F := F) c)) ⊢ shared m c := by
  unfold shared
  iintro ⟨H1, H2, H3⟩
  iexists K
  isplitl [H1]; · iexact H1
  isplitl [H2] <;> iassumption

theorem share_out :
    (bigSep Finset.univ fun c : Dev nD => iprop((bigSep Finset.univ fun k : Kd => iprop(∃ κ : ℕ, cellInv ER (Rd m) κ (kcell (c, k))))
          ∗ ((bigSep Finset.univ fun k : Kd => atPos ER (kcell (c, k)) 0 ∅ 0) ∗ (bigSep Finset.univ fun k : Kd => reached ER (kcell (c, k)) 0)) ∗ toksOf c) : sProp 𝕄)
      ⊢ bigSep Finset.univ (shared m) := by
  rw [bigSep_sep', bigSep_sep', bigSep_sep', ← bigSep_univ_prod (fun ck : Dev nD × Kd => iprop(∃ κ : ℕ, cellInv ER (Rd m) κ (kcell ck))),
    ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd m) κ (kcell ck) : sProp 𝕄))) $$ HI
  icases HK with ⟨%K, #HI⟩
  ihave Htk := (toks_over (F := F)) $$ Htok
  iapply (with_records m K fun c _ => shared_intro m K c)
  isplitr
  · unfold records; isplitl; · iexact HI
    iexact HR
  · rw [bigSep_sep']
    isplitl [Hat]; · iexact Hat
    iexact Htk

theorem share_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (shared m) :=
  ((bigSep_mono fun c _ => alloc_core m c).trans (bigSep_fupd _ _)).trans (BI.fupd_mono (share_out m))

/-! ## The launch credit -/

theorem oneT_at (kk : Kd) (d j : Dev nD) (ck : Dev nD × Kd) : oneT kk d j (kcell ck) () = if j ≠ d ∧ ck = (j, kk) then 1 else 0 := by
  unfold oneT
  by_cases h : j = d
  · rw [if_pos h, if_neg (fun h' => h'.1 h)]; rfl
  · rw [if_neg h, tallyAt_apply]
    by_cases h2 : ck = (j, kk)
    · rw [if_pos ⟨congrArg kcell h2, rfl⟩, if_pos ⟨h, h2⟩]
    · rw [if_neg (fun h' => h2 (kcell_eq_iff.mp h'.1)), if_neg (fun h' => h2 h'.2)]
theorem blkT_at (d : Dev nD) (r : Fin 7) (ck : Dev nD × Kd) : blkT d r (kcell ck) () = N * (if ck = (tgt d r, krcv d) then 1 else 0) := by
  unfold blkT
  rw [tallyAt_apply]
  by_cases h2 : ck = (tgt d r, krcv d)
  · rw [if_pos ⟨congrArg kcell h2, rfl⟩, if_pos h2, Nat.mul_one]
  · rw [if_neg (fun h' => h2 (kcell_eq_iff.mp h'.1)), if_neg h2, Nat.mul_zero]

/-- How many units device `d` owes cell `ck` through barriers, and how many blocks. -/
def units (d : Dev nD) (ck : Dev nD × Kd) : ℕ :=
  (devs.map fun j => if j ≠ d ∧ ck = (j, kfin) then 1 else 0).sum + (devs.map fun j => if j ≠ d ∧ ck = (j, kbar) then 1 else 0).sum
def blocks (d : Dev nD) (ck : Dev nD × Kd) : ℕ := (offs.map fun r => if ck = (tgt d r, krcv d) then 1 else 0).sum

theorem owed_at (d : Dev nD) (ck : Dev nD × Kd) : O₀ d (kcell ck) () = units d ck + N * blocks d ck := by
  have e (kk : Kd) : (List.map (fun t : CellTallies nD τ sig Unit => t (kcell ck) ()) (devs.map (oneT kk d))) = devs.map fun j => if j ≠ d ∧ ck = (j, kk) then 1 else 0 := by
    rw [List.map_map]; exact List.map_congr_left fun j _ => oneT_at kk d j ck
  have e2 : (List.map (fun t : CellTallies nD τ sig Unit => t (kcell ck) ()) (offs.map (blkT d))) = offs.map fun r => N * (if ck = (tgt d r, krcv d) then 1 else 0) := by
    rw [List.map_map]; exact List.map_congr_left fun r _ => blkT_at d r ck
  unfold O₀ sndO finO
  rw [owedL_apply, owedL_apply, owedL_apply, e, e, e2, List.sum_map_mul_left]
  unfold units blocks
  show 0 + _ + _ + _ = _
  omega

theorem credit_at (ck : Dev nD × Kd) (n b : ℕ) (hn : ∑ d, units d ck = n) (hb : ∑ d, blocks d ck = b) :
    tallyOn (kcell ck) (launchCredit (Pipeline.owing O₀) 0 (kcell ck)) = (tallyAt (kcell ck) () (n + N * b) : CellTallies nD τ sig Unit) := by
  unfold tallyAt; refine congrArg _ (Finsupp.ext fun u => ?_); cases u
  rw [Pipeline.launchCredit_owing, Finsupp.single_eq_same, Finset.sum_congr rfl fun d _ => owed_at d ck, Finset.sum_add_distrib, ← Finset.mul_sum, hn, hb]

theorem units_bar : ∀ c : Dev nD, ∑ d, units d (c, kbar) = 7 ∧ ∑ d, blocks d (c, kbar) = 0 := by decide +kernel
theorem units_fin : ∀ c : Dev nD, ∑ d, units d (c, kfin) = 7 ∧ ∑ d, blocks d (c, kfin) = 0 := by decide +kernel
theorem units_rcv : ∀ (c : Dev nD) (r : Fin 7), ∑ d, units d (c, krcv (sdr c r)) = 0 ∧ ∑ d, blocks d (c, krcv (sdr c r)) = 1 := by decide +kernel

theorem credit_bar (c : Dev nD) : tallyOn (kcell (c, kbar)) (launchCredit (Pipeline.owing O₀) 0 (kcell (c, kbar))) = (tallyAt (kcell (c, kbar)) () 7 : CellTallies nD τ sig Unit) :=
  credit_at _ 7 0 (units_bar c).1 (units_bar c).2
theorem credit_fin (c : Dev nD) : tallyOn (kcell (c, kfin)) (launchCredit (Pipeline.owing O₀) 0 (kcell (c, kfin))) = (tallyAt (kcell (c, kfin)) () 7 : CellTallies nD τ sig Unit) :=
  credit_at _ 7 0 (units_fin c).1 (units_fin c).2
theorem credit_rcv (c : Dev nD) (r : Fin 7) : tallyOn (kcell (c, krcv (sdr c r))) (launchCredit (Pipeline.owing O₀) 0 (kcell (c, krcv (sdr c r)))) = (tallyAt (kcell (c, krcv (sdr c r))) () N : CellTallies nD τ sig Unit) := by
  rw [credit_at _ 0 1 (units_rcv c r).1 (units_rcv c r).2, Nat.zero_add, Nat.mul_one]

theorem launch_credits (c : Dev nD) : (Pipeline.launchCred O₀ c : sProp 𝕄) ⊢ credits c := by
  have h1 : (Pipeline.launchCred O₀ c : sProp 𝕄)
      ⊢ bigSep Finset.univ fun k : Kd => cred (tallyOn (kcell (c, k)) (launchCredit (Pipeline.owing O₀) 0 (kcell (c, k)))) := by
    unfold Pipeline.launchCred
    refine (bigSep_subset (t := Finset.univ.map ⟨csem, csem_injective⟩) (Finset.subset_univ _)).trans ?_
    rw [bigSep_map]; exact BI.Entails.refl _
  refine h1.trans ?_
  rw [bigSep_kd c]
  unfold credits
  rw [credit_bar, credit_fin, bigSep_congr (s := Finset.univ) fun (r : Fin 7) _ => congrArg cred (credit_rcv c r)]
  iintro ⟨H1, ⟨H2, -, -⟩, -, -, H3⟩
  isplitl [H1]; · iexact H1
  isplitl [H2] <;> iassumption

/-! ## Into the kernel and out of it -/

/-- The argument the kernel does not read. -/
def idle (c : Dev nD) : sProp 𝕄 := own c main_arg1 (m ((c : Thread nD τ).loc main_arg1))

theorem into_start (c : Dev nD) :
    iprop(Pipeline.unscopedRestP Pipeline.Prefetch.none cfg0.spec c (fun b => m ((c : Thread nD τ).loc b)) ∗ levAts L lv
        ∗ Pipeline.launchCred O₀ c ∗ prngReg c (ρ c) ∗ shared m c)
      ⊢ |={Set.univ}=> iprop(start m c ∗ idle m c) := by
  rw [Pipeline.unscopedRestP_none, unscopedRest0_eq]
  iintro ⟨⟨H0, H1, H3⟩, Hlev, Hcr, -, HG⟩
  ihave Hc := (launch_credits (F := F) c) $$ Hcr
  imodintro
  unfold start shared args idle
  isplitr [H1]
  · isplitl [HG]; · iexact HG
    isplitl [Hc]; · iexact Hc
    isplitl [Hlev]; · iexact Hlev
    isplitl [H0] <;> iassumption
  · iexact H1

theorem into_phi (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem out_phi (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl, scopedRest0_eq]
  unfold Φ₁ scr
  rw [sems_eq]
  iintro ⟨Hr, ⟨Hu, Ho⟩, Ha⟩
  isplitl [Hu Ha]
  · isplitl [Hu] <;> iassumption
  isplitl [Ho] <;> iassumption

theorem cell_waits (c : Dev nD) : (levAts L lv : sProp 𝕄) ⊢ Pipeline.cellsWaits cfgs (dats m ρ) () 0 c :=
  Pipeline.cellsWaits_intro cfgs (dats m ρ) () 0 c fun w s t =>
    mayWait c _ _ 0 (by fin_cases w <;> fin_cases s <;> decide) (by
      rcases t with ⟨_ | _, ht⟩
      · exact above_start c
      · exact above_zero 0)

/-! ## The run -/

/-- What an array holds at the end. -/
def finalA (c : Dev nD) (w : Fin cfg0.W) : Buf (Elt F) ((cfg0.win w).arr.view.loc (c : Thread nD τ)) := (dats m ρ 0 c).arrAt w cfg0.N

/-- A device's arguments that are no window's array, as launched. -/
def kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg3) = m ((c : Thread nD τ).loc main_arg3)

def QC : PUnit × MemSt nD τ sig (Elt F) → Prop := fun r =>
  ∀ c : Dev nD, (∀ w : Fin cfg0.W, r.2.mem ((cfg0.win w).arr.view.loc (c : Thread nD τ)) = finalA m ρ c w) ∧ kept m c r.2

set_option maxRecDepth 8000 in
/-- For any float values, from any memory with zero counters: every weakly fair execution of the program on the eight
    devices terminates, and every final state has each device's result array at the computed contents, its arguments
    unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_meets m ρ) (hne := fun w => by fin_cases w <;> exact Nat.succ_pos _) (harr := arr_whole0) (hstage := stage_whole0) (hshare := full_share m ρ)
    (hdistinct := winFacts0.arr_inj)
    (O₀ := O₀) (howed₀ := fun _ => rfl) (howedN := fun _ => rfl)
    (L := L) (lv := lv) (hL := L_of_ne) (hwaits := cell_waits m ρ)
    (G := dealt m) (G' := shared m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := share_all m)
    (hA := fun _ _ => rfl) (hpf := fun _ k => k.elim0)
    (X := start m) (Y := fun c => iprop(unscopedSems0 c ∗ args m c)) (Z := idle m)
    (hX := into_start m ρ) (hin := into_phi m ρ) (hout := out_phi m ρ)
    (QY := fun c s => kept m c s ∧ ∀ sm : SemLoc sig, sm.isScoped .tc = false → s.sem ((c.tc : Thread nD τ), sm) = 0)
    (hY := fun c s' => by
      unfold args idle
      iintro ⟨⟨Hu, H0, H3⟩, H1, HSI⟩
      icombine HSI H0 gives %h0
      icombine HSI H1 gives %h1
      icombine HSI H3 gives %h3
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ h0, Buf.eq_of_forall_mem_univ h1, Buf.eq_of_forall_mem_univ h3⟩, hs⟩
      iexact HSI)
    (hQ := fun _ h hs => ⟨fun c => ⟨fun w => (h c).1 w, (h c).2.2.1⟩, sem_eq_zero hs fun c => (h c).2.2.2⟩)

/-- The routing's array holds what it held. -/
theorem final_routing (c : Dev nD) : finalA m ρ c (0 : Fin 2) = (s₀ m ρ).mem (win0_0.arr.view.loc (c : Thread nD τ)) :=
  (dats (F := F) m ρ 0 c).arrAt_in (0 : Fin 2) rfl _

end Cert.MoeRun

end
-- ==== Proof.Value1.lean ====
/-
# The routing table over the reals: which token stands in which slot
-/
module

public import proofs.«01_k».proof.Proof.Protocol
public import Idealize.ShloMosaic.Lib.Pointwise
public import Idealize.ShloMosaic.Lib.WordCmp
public import Idealize.ShloMosaic.Lib.Affine
public import Idealize.ShloMosaic.PureOps.Ideal.Laws

@[expose] public section

noncomputable section

namespace Cert.MoeRun

open Idealize.ShloMosaic Cert.KernelIdeal Cert.KernelIdeal.Gen

/-- The kernel's quotient of the slot number by 32 is the number of the slot's expert on the device. -/
theorem pay3_at (i : Fin 2048) (r : Fin 256) : k0_pay3 (ix2 i r) = BitVec.ofNat 32 (r.val / 32) := by
  pointwise [k0_pay3]
  revert r
  decide +kernel

/-- The first expert of device `c`, as the kernel computes it, is `8 c`. -/
theorem devW_at (c : Dev nD) : Scalar.muli (devW c) 8#32 = BitVec.ofNat 32 (8 * c.val) := by
  revert c; decide +kernel

/-- A truth value widened and read as a float is one or zero. -/
theorem ind_at (φ : FTy) (b : BitVec 1) :
    (FloatOps.sitofp φ (b.setWidth 32) : Ideal φ) = if b = 1#1 then 1 else 0 := by
  rcases BitVec.eq_zero_or_eq_one b with h | h
  · subst h
    show (((BitVec.setWidth 32 0#1).toInt : ℝ) : EReal) = _
    simp
  · subst h
    show (((BitVec.setWidth 32 1#1).toInt : ℝ) : EReal) = _
    rw [show (BitVec.setWidth 32 1#1).toInt = 1 by decide]
    simp

/-- The divisor the kernel guards against zero is 32. -/
theorem divisor_at : Scalar.select (Scalar.cmpi CmpIPredicate.eq 32#32 0#32) 1#32 32#32 = 32#32 := by decide

/-- The kernel's remainder of the slot number by 32, with its sign correction, is the place within the expert's slots. -/
theorem place_at (r : Fin 256) :
    Scalar.select (IntOp.andi (IntOp.xori (IntOp.cmpi CmpIPredicate.slt (IntOp.remsi ArithUnit.vector (BitVec.ofNat 32 r.val) 32#32) 0#32)
        (Scalar.cmpi CmpIPredicate.slt 32#32 0#32))
        (IntOp.cmpi CmpIPredicate.ne (IntOp.remsi ArithUnit.vector (BitVec.ofNat 32 r.val) 32#32) 0#32))
      (IntOp.addi (IntOp.remsi ArithUnit.vector (BitVec.ofNat 32 r.val) 32#32) 32#32)
      (IntOp.remsi ArithUnit.vector (BitVec.ofNat 32 r.val) 32#32) = BitVec.ofNat 32 (r.val % 32) := by
  revert r; decide +kernel

/-- Token words `e` and rank words `s` put token `i` in slot `r` of device `c`: its expert is the slot's, its rank the
    slot's place, and the place is one of the first 25. -/
def Hit (c : Dev nD) (e s : Fin 2048 → BitVec 32) (i : Fin 2048) (r : Fin 256) : Prop :=
  e i = BitVec.ofNat 32 (8 * c.val + r.val / 32) ∧ s i = BitVec.ofNat 32 (r.val % 32) ∧ r.val % 32 < 25

instance (c : Dev nD) (e s : Fin 2048 → BitVec 32) (i : Fin 2048) (r : Fin 256) : Decidable (Hit c e s i r) := by
  unfold Hit; infer_instance

/-- The kernel's table of tokens and slots holds one where the token stands in the slot and zero elsewhere. -/
theorem pay4_at (c : Dev nD) (a b : IVec S2048x1 32) (i : Fin 2048) (r : Fin 256) :
    k0_pay4 (F := Ideal) (devW c) a b slotIota k0_pay3 32#32 (ix2 i r) =
      if Hit c (fun j => a (ix2 j 0)) (fun j => b (ix2 j 0)) i r then 1 else 0 := by
  pointwise [k0_pay4, slotIota]
  rw [ind_at, pay3_at, devW_at, divisor_at, place_at]
  refine if_congr ?_ rfl rfl
  rw [IntOp.andi_eq_one, IntOp.andi_eq_one, IntOp.cmpi_eq, IntOp.cmpi_eq,
    show (25#32 : BitVec 32) = BitVec.ofNat 32 25 from rfl,
    WordCmp.cmpi_slt_ofNat_eq_one_iff (by have := Nat.mod_lt r.val (show 0 < 32 by omega); omega) (by decide)]
  show (_ = BitVec.ofNat 32 _ + BitVec.ofNat 32 _ ∧ _) ∧ _ ↔ _
  rw [BitVec.ofNat_add_ofNat]
  exact and_assoc

/-! ## Ranks -/

/-- How many tokens up to and including token `i` name expert `E`. -/
def cnt (e : Fin 2048 → BitVec 32) (E : ℕ) (i : Fin 2048) : ℕ :=
  (Finset.univ.filter fun j : Fin 2048 => j ≤ i ∧ e j = BitVec.ofNat 32 E).card

/-- A token that names the expert is counted itself. -/
theorem cnt_pos (e : Fin 2048 → BitVec 32) (E : ℕ) (i : Fin 2048) (h : e i = BitVec.ofNat 32 E) : 0 < cnt e E i :=
  Finset.card_pos.2 ⟨i, Finset.mem_filter.2 ⟨Finset.mem_univ _, le_refl i, h⟩⟩

/-- No more tokens are counted than there are. -/
theorem cnt_le (e : Fin 2048 → BitVec 32) (E : ℕ) (i : Fin 2048) : cnt e E i ≤ 2048 :=
  (Finset.card_le_univ _).trans (by simp)

/-- Of two tokens that name the expert, the later has the greater count. -/
theorem cnt_lt (e : Fin 2048 → BitVec 32) (E : ℕ) {i j : Fin 2048} (hij : i < j) (h : e j = BitVec.ofNat 32 E) :
    cnt e E i < cnt e E j := by
  refine Finset.card_lt_card (Finset.ssubset_iff_subset_ne.2 ⟨fun k hk => ?_, fun he => ?_⟩)
  · have hk := (Finset.mem_filter.1 hk).2
    exact Finset.mem_filter.2 ⟨Finset.mem_univ _, hk.1.trans hij.le, hk.2⟩
  · have : j ∈ Finset.univ.filter fun k : Fin 2048 => k ≤ i ∧ e k = BitVec.ofNat 32 E :=
      he ▸ Finset.mem_filter.2 ⟨Finset.mem_univ _, le_refl j, h⟩
    exact absurd (Finset.mem_filter.1 this).2.1 (not_le.2 hij)

/-- Two tokens that name the expert and have the same count are one token. -/
theorem cnt_inj (e : Fin 2048 → BitVec 32) (E : ℕ) {i j : Fin 2048} (hi : e i = BitVec.ofNat 32 E) (hj : e j = BitVec.ofNat 32 E)
    (h : cnt e E i = cnt e E j) : i = j := by
  rcases lt_trichotomy i j with hl | rfl | hl
  · exact absurd h (cnt_lt e E hl hj).ne
  · rfl
  · exact absurd h (cnt_lt e E hl hi).ne'

/-- The exact conversion of a small natural number to a word is that word. -/
theorem fptosi_nat (n : ℕ) (hn : n < 2 ^ 31) : Ideal.fptosi 32 (((n : ℝ)) : EReal) = BitVec.ofNat 32 n := by
  unfold Ideal.fptosi
  show BitVec.ofInt 32 (max _ (min _ (if 0 ≤ (n : ℝ) then ⌊(n : ℝ)⌋ else ⌈(n : ℝ)⌉))) = _
  rw [if_pos (Nat.cast_nonneg n), Int.floor_natCast, min_eq_right (by omega), max_eq_right (by omega)]
  exact BitVec.ofInt_natCast 32 n

/-- A sum of ones over the tokens that satisfy a condition is their number. -/
theorem sum_ind (P : Fin 2048 → Prop) [DecidablePred P] :
    (∑ j : Fin 2048, if P j then (1 : EReal) else 0) = (((Finset.univ.filter P).card : ℝ) : EReal) := by
  rw [Finset.sum_boole]
  exact (EReal.coe_natCast).symm

/-- The rank word the kernel computes for a token that names expert `E` is its count less one. -/
theorem pay2_at (ri : Vec Ideal S2048x1 .i32) (i : Fin 2048) (E : Fin 64) (hE : ri (ix2 i 0) = BitVec.ofNat 32 E.val) :
    k0_pay2 (F := Ideal) ri (ix2 i 0) = BitVec.ofNat 32 (cnt (fun j => ri (ix2 j 0)) E.val i - 1) := by
  pointwise [k0_pay2, k0_pay1]
  simp only [ind_at, IntOp.cmpi_eq]
  rw [Finset.sum_eq_single E (fun x _ hx => ?_) (fun h => absurd (Finset.mem_univ _) h), if_pos hE, mul_one]
  · have hs : ∀ x : Fin 2048, ((if IntOp.cmpi CmpIPredicate.sge (BitVec.ofNat 32 i.val) (BitVec.ofNat 32 x.val) = 1#1 then (1 : EReal) else 0) *
        if ri (ix2 x 0) = BitVec.ofNat 32 E.val then 1 else 0) = if x ≤ i ∧ ri (ix2 x 0) = BitVec.ofNat 32 E.val then 1 else 0 := by
      intro x
      simp only [show (IntOp.cmpi CmpIPredicate.sge (BitVec.ofNat 32 i.val) (BitVec.ofNat 32 x.val) = 1#1) = (x ≤ i) from
        propext ((WordCmp.cmpi_sge_ofNat_eq_one_iff (by have := i.isLt; omega) (by have := x.isLt; omega)).trans Fin.le_def.symm)]
      by_cases h1 : x ≤ i <;> by_cases h2 : ri (ix2 x 0) = BitVec.ofNat 32 E.val <;> simp [h1, h2]
    rw [Finset.sum_congr rfl fun x _ => hs x, sum_ind]
    have hp := cnt_pos (fun j => ri (ix2 j 0)) E.val i hE
    have hl := cnt_le (fun j => ri (ix2 j 0)) E.val i
    have e1 : (((cnt (fun j => ri (ix2 j 0)) E.val i : ℝ) : EReal) - 1) = (((cnt (fun j => ri (ix2 j 0)) E.val i - 1 : ℕ) : ℝ) : EReal) := by
      rw [Nat.cast_sub hp, EReal.coe_sub]; simp
    exact (congrArg (Ideal.fptosi 32) e1).trans (fptosi_nat _ (by omega))
  · rw [if_neg, mul_zero]
    intro h
    have h2 := hE.symm.trans h
    have h3 := congrArg BitVec.toNat h2
    rw [BitVec.toNat_ofNat, BitVec.toNat_ofNat, Nat.mod_eq_of_lt (by have := E.isLt; omega), Nat.mod_eq_of_lt (by have := x.isLt; omega)] at h3
    exact hx (Fin.ext h3.symm)

end Cert.MoeRun

end
-- ==== Proof.Value2.lean ====
/-
# What a device sends, over the reals: every token's row for the device's experts
-/
module

public import proofs.«01_k».proof.Proof.Value1

@[expose] public section

noncomputable section

namespace Cert.MoeRun

open Idealize.ShloMosaic Cert.KernelIdeal Cert.KernelIdeal.Gen

/-- Row `k` of a device's weights is the weight matrix of its expert `k`. -/
theorem wRow_at (w : Vec Ideal S8x512x1024 .f32) (k : Fin 8) (a : Fin 512) (b : Fin 1024) :
    wRow (F := Ideal) w k (ix3 0 a b) = w (ix3 k a b) := by
  refine congrArg w (funext fun d => Fin.ext ?_)
  match d with
  | ⟨0, _⟩ => exact Nat.add_zero _
  | ⟨1, _⟩ => show 0 + 1 * a.val = a.val; omega
  | ⟨2, _⟩ => show 0 + 1 * b.val = b.val; omega

/-- One product of a slot's row with its expert's weights depends on the slot and the expert by value only. -/
theorem term_at (g : FVec Ideal S256x512 .bf16) (w : Vec Ideal S8x512x1024 .f32) {r r' : Fin 256} {q q' : Fin 8} (k : Fin 512)
    (n : Fin 1024) (hr : r'.val = r.val) (hq : q'.val = q.val) :
    g (ix2 r' k) * wRow (F := Ideal) w q' (ix3 0 k n) = g (ix2 r k) * w (ix3 q k n) := by
  obtain rfl := Fin.ext hr
  obtain rfl := Fin.ext hq
  rw [wRow_at]

/-- The eight products laid end to end: slot `r` holds its row of `g` times the weights of its expert `r / 32`. -/
theorem pay8_at (g : FVec Ideal S256x512 .bf16) (w : Vec Ideal S8x512x1024 .f32) (y0 : FVec Ideal S32x1024 .f32)
    (g1 : FVec Ideal S32x512 .bf16) (r : Fin 256) (n : Fin 1024)
    (hy : ∀ s : Fin 32, y0 (ix2 s n) = ∑ k : Fin 512, g (ix2 ⟨s.val, by omega⟩ k) * wRow (F := Ideal) w 0 (ix3 0 k n))
    (hg : ∀ (s : Fin 32) (k : Fin 512), g1 (ix2 s k) = g (ix2 ⟨32 + s.val, by omega⟩ k)) :
    k0_pay8 (F := Ideal) g y0 g1 (wRow w 1) (wRow w 2) (wRow w 3) (wRow w 4) (wRow w 5) (wRow w 6) (wRow w 7) (ix2 r n) =
    ∑ k : Fin 512, g (ix2 r k) * w (ix3 ⟨r.val / 32, by omega⟩ k n) := by
  have hr := r.isLt
  pointwise [k0_pay8]
  simp only [hy, hg]
  split_ifs <;> refine Finset.sum_congr rfl fun k _ => term_at g w k n ?_ ?_ <;>
    simp only [Fin.val_zero, Fin.val_one, Fin.val_two, show ((3 : Fin 8)).val = 3 from rfl, show ((4 : Fin 8)).val = 4 from rfl,
      show ((5 : Fin 8)).val = 5 from rfl, show ((6 : Fin 8)).val = 6 from rfl, show ((7 : Fin 8)).val = 7 from rfl,
      show ((2 : Fin 8)).val = 2 from rfl, show ((1 : Fin 8)).val = 1 from rfl, show ((0 : Fin 8)).val = 0 from rfl] <;> omega

/-- The gathered rows: slot `r` holds the sum of the rows of the tokens that stand in it. -/
theorem pay5_at (c : Dev nD) (a b : IVec S2048x1 32) (x : Vec Ideal S2048x512 .f32) (r : Fin 256) (k : Fin 512) :
    k0_pay5 (F := Ideal) (devW c) a b slotIota k0_pay3 32#32 x (ix2 r k) =
      ∑ j : Fin 2048, (if Hit c (fun t => a (ix2 t 0)) (fun t => b (ix2 t 0)) j r then 1 else 0) * x (ix2 j k) := by
  pointwise [k0_pay5]
  simp only [pay4_at]

/-- The words the routing names the tokens' experts by. -/
def eW (ri : Vec Ideal S2048x1 .i32) : Fin 2048 → BitVec 32 := fun t => ri (ix2 t 0)
/-- The words of the tokens' ranks, as the kernel computes them. -/
def sW (ri : Vec Ideal S2048x1 .i32) : Fin 2048 → BitVec 32 := fun t => k0_pay2 (F := Ideal) ri (ix2 t 0)

/-- The routing read as the kernel loads it is the routing. -/
theorem pay1_at (ri : Vec Ideal S2048x1 .i32) (t : Fin 2048) : k0_pay1 (F := Ideal) ri (ix2 t 0) = ri (ix2 t 0) := by
  pointwise [k0_pay1]

/-- Device `c` sends for token `i` the sum over its slots that hold the token of the slot's gathered row times the slot's
    expert's weights. -/
theorem sendOf_sum (c : Dev nD) (ri : Vec Ideal S2048x1 .i32) (x : Vec Ideal S2048x512 .f32) (w : Vec Ideal S8x512x1024 .f32)
    (i : Fin 2048) (n : Fin 1024) :
    @Eq EReal (sendOf (F := Ideal) c ri x w (ix2 i n))
      (∑ r : Fin 256, (if Hit c (eW ri) (sW ri) i r then 1 else 0) *
        ∑ k : Fin 512, (∑ j : Fin 2048, (if Hit c (eW ri) (sW ri) j r then 1 else 0) * x (ix2 j k)) *
          w (ix3 ⟨r.val / 32, by omega⟩ k n)) := by
  unfold sendOf
  pointwise [k0_pay9]
  refine Finset.sum_congr rfl fun r _ => ?_
  have h1 : (fun t => k0_pay1 (F := Ideal) ri (ix2 t 0)) = eW ri := funext fun t => pay1_at ri t
  rw [pay4_at, pay8_at _ w _ _ r n (fun s => ?_) (fun s k => ?_)]
  · simp only [pay5_at, h1]
    rfl
  · pointwise [k0_pay6]
  · pointwise [k0_pay7]

/-- One token at most stands in a slot. -/
theorem hit_inj (c : Dev nD) (ri : Vec Ideal S2048x1 .i32) {i j : Fin 2048} {r : Fin 256}
    (hi : Hit c (eW ri) (sW ri) i r) (hj : Hit c (eW ri) (sW ri) j r) : j = i := by
  have hE : 8 * c.val + r.val / 32 < 64 := by have : c.val < 8 := c.isLt; have := r.isLt; omega
  have ei := pay2_at ri i ⟨8 * c.val + r.val / 32, hE⟩ hi.1
  have ej := pay2_at ri j ⟨8 * c.val + r.val / 32, hE⟩ hj.1
  have he := ej.symm.trans ((hj.2.1.trans hi.2.1.symm).trans ei)
  have h3 := congrArg BitVec.toNat he
  have li := cnt_le (eW ri) (8 * c.val + r.val / 32) i
  have lj := cnt_le (eW ri) (8 * c.val + r.val / 32) j
  have pi := cnt_pos (eW ri) (8 * c.val + r.val / 32) i hi.1
  have pj := cnt_pos (eW ri) (8 * c.val + r.val / 32) j hj.1
  change (BitVec.ofNat 32 (cnt (eW ri) (8 * c.val + r.val / 32) j - 1)).toNat = (BitVec.ofNat 32 (cnt (eW ri) (8 * c.val + r.val / 32) i - 1)).toNat at h3
  rw [BitVec.toNat_ofNat, BitVec.toNat_ofNat, Nat.mod_eq_of_lt (by omega), Nat.mod_eq_of_lt (by omega)] at h3
  exact cnt_inj (eW ri) _ hj.1 hi.1 (by omega)

/-- So a slot that holds the token contributes the token's row times the slot's expert's weights. -/
theorem sendOf_at (c : Dev nD) (ri : Vec Ideal S2048x1 .i32) (x : Vec Ideal S2048x512 .f32) (w : Vec Ideal S8x512x1024 .f32)
    (i : Fin 2048) (n : Fin 1024) :
    @Eq EReal (sendOf (F := Ideal) c ri x w (ix2 i n))
      (∑ r : Fin 256, if Hit c (eW ri) (sW ri) i r then ∑ k : Fin 512, x (ix2 i k) * w (ix3 ⟨r.val / 32, by omega⟩ k n) else 0) := by
  rw [sendOf_sum]
  refine Finset.sum_congr rfl fun r _ => ?_
  by_cases h : Hit c (eW ri) (sW ri) i r
  · rw [if_pos h, if_pos h, one_mul]
    refine Finset.sum_congr rfl fun k _ => congrArg (· * _) ?_
    rw [Finset.sum_eq_single i (fun j _ hj => by rw [if_neg fun h' => hj (hit_inj c ri h h'), zero_mul])
      (fun hn => absurd (Finset.mem_univ _) hn), if_pos h, one_mul]
  · rw [if_neg h, if_neg h, zero_mul]

end Cert.MoeRun

end
-- ==== Proof.Value3.lean ====
/-
# The devices' contributions added up, over the reals
-/
module

public import proofs.«01_k».proof.Proof.Value2

@[expose] public section

noncomputable section

namespace Cert.MoeRun

open Idealize.ShloMosaic Idealize.ShloMosaic.TcCoe Cert.KernelIdeal Cert.KernelIdeal.Gen

/-- The result the mathematics names: token `i` gets its expert's row when the expert is one of the 64 and the token is
    among the first 25 that name it, and zero otherwise, as a sum over the experts. -/
def moe (ri : Vec Ideal S2048x1 .i32) (f : Fin 64 → EReal) (i : Fin 2048) : EReal :=
  ∑ E : Fin 64, if eW ri i = BitVec.ofNat 32 E.val ∧ cnt (eW ri) E.val i ≤ 25 then f E else 0

/-- Expert `q` of device `c`, among the 64. -/
def expOf (c : Dev nD) (q : Fin 8) : Fin 64 := ⟨8 * c.val + q.val, by have : c.val < 8 := c.isLt; have := q.isLt; omega⟩

/-- Over the 32 slots of one expert, a kept token stands in one and any other in none. -/
theorem slots_sum (ri : Vec Ideal S2048x1 .i32) (E : Fin 64) (v : EReal) (i : Fin 2048) :
    (∑ s : Fin 32, if eW ri i = BitVec.ofNat 32 E.val ∧ sW ri i = BitVec.ofNat 32 s.val ∧ s.val < 25 then v else 0) =
      if eW ri i = BitVec.ofNat 32 E.val ∧ cnt (eW ri) E.val i ≤ 25 then v else 0 := by
  by_cases hE : eW ri i = BitVec.ofNat 32 E.val
  · have hs : sW ri i = BitVec.ofNat 32 (cnt (eW ri) E.val i - 1) := pay2_at ri i E hE
    have hp := cnt_pos (eW ri) E.val i hE
    have hl := cnt_le (eW ri) E.val i
    have hiff : ∀ s : Fin 32, sW ri i = BitVec.ofNat 32 s.val ↔ cnt (eW ri) E.val i - 1 = s.val := by
      intro s
      constructor
      · intro h
        have h3 := congrArg BitVec.toNat (hs.symm.trans h)
        rw [BitVec.toNat_ofNat, BitVec.toNat_ofNat, Nat.mod_eq_of_lt (by omega), Nat.mod_eq_of_lt (by have := s.isLt; omega)] at h3
        exact h3
      · intro h; rw [hs, h]
    by_cases hc : cnt (eW ri) E.val i ≤ 25
    · rw [if_pos ⟨hE, hc⟩, Finset.sum_eq_single (⟨cnt (eW ri) E.val i - 1, by omega⟩ : Fin 32)
        (fun s _ hn => if_neg fun h => hn (Fin.ext ((hiff s).1 h.2.1).symm)) (fun h => absurd (Finset.mem_univ _) h)]
      exact if_pos ⟨hE, hs, by show _ - 1 < 25; omega⟩
    · rw [if_neg fun h => hc h.2]
      refine Finset.sum_eq_zero fun s _ => if_neg fun h => ?_
      have := (hiff s).1 h.2.1
      omega
  · rw [if_neg fun h => hE h.1]
    exact Finset.sum_eq_zero fun s _ => if_neg fun h => hE h.1

/-- A sum over the 256 slots is the sum over the eight experts of the sums over their 32 slots. -/
theorem sum_slots (g : Fin 256 → EReal) :
    ∑ r : Fin 256, g r = ∑ q : Fin 8, ∑ s : Fin 32, g ⟨32 * q.val + s.val, by have := q.isLt; have := s.isLt; omega⟩ := by
  rw [← Equiv.sum_comp (finProdFinEquiv (m := 8) (n := 32)) g, Fintype.sum_prod_type]
  exact Finset.sum_congr rfl fun q _ => Finset.sum_congr rfl fun s _ => congrArg g (Fin.ext (Nat.add_comm _ _))

/-- A sum over the 64 experts is the sum over the devices of the sums over their eight. -/
theorem sum_experts (g : Fin 64 → EReal) : ∑ E : Fin 64, g E = ∑ c : Dev nD, ∑ q : Fin 8, g (expOf c q) := by
  rw [← Equiv.sum_comp (finProdFinEquiv (m := 8) (n := 8)) g, Fintype.sum_prod_type]
  exact Finset.sum_congr rfl fun c _ => Finset.sum_congr rfl fun q _ => congrArg g (Fin.ext (Nat.add_comm _ _))

/-- What device `c` sends for a token is the sum over its own experts of what the mathematics names. -/
theorem send_experts (c : Dev nD) (ri : Vec Ideal S2048x1 .i32) (x : Vec Ideal S2048x512 .f32) (w : Vec Ideal S8x512x1024 .f32)
    (i : Fin 2048) (n : Fin 1024) (f : Fin 64 → EReal)
    (hf : ∀ q : Fin 8, f (expOf c q) = ∑ k : Fin 512, x (ix2 i k) * w (ix3 q k n)) :
    @Eq EReal (sendOf (F := Ideal) c ri x w (ix2 i n))
      (∑ q : Fin 8, if eW ri i = BitVec.ofNat 32 (expOf c q).val ∧ cnt (eW ri) (expOf c q).val i ≤ 25 then f (expOf c q) else 0) := by
  rw [sendOf_at, sum_slots]
  refine Finset.sum_congr rfl fun q _ => ?_
  rw [← slots_sum]
  refine Finset.sum_congr rfl fun s _ => ?_
  have hq : (32 * q.val + s.val) / 32 = q.val := by have := s.isLt; omega
  have hs : (32 * q.val + s.val) % 32 = s.val := by have := s.isLt; omega
  refine if_congr ?_ ?_ rfl
  · unfold Hit
    show (_ = BitVec.ofNat 32 (8 * c.val + (32 * q.val + s.val) / 32) ∧ _ = BitVec.ofNat 32 ((32 * q.val + s.val) % 32)
      ∧ (32 * q.val + s.val) % 32 < 25) ↔ _
    rw [hq, hs]
    rfl
  · rw [hf]
    refine Finset.sum_congr rfl fun k _ => congrArg (_ * w ·) ?_
    exact congrArg (ix3 · k n) (Fin.ext hq)

/-- A sum over the devices, own first and then in the order of receipt. -/
theorem sum_devices (c : Dev nD) (g : Dev nD → EReal) :
    g c + g (sdr c 0) + g (sdr c 1) + g (sdr c 2) + g (sdr c 3) + g (sdr c 4) + g (sdr c 5) + g (sdr c 6) = ∑ d : Dev nD, g d := by
  rw [← Finset.add_sum_erase Finset.univ g (Finset.mem_univ c), erase_eq_sdr, Finset.sum_map, Fin.sum_univ_seven]
  simp only [Function.Embedding.coeFn_mk, add_assoc]

/-- Block `c` of a buffer of results starts at its row `256 c`. -/
theorem blkOf_at (f : Vec Ideal S2048x1024 .bf16) (c : Dev nD) (a : Fin 256) (n : Fin 1024) :
    blkOf (F := Ideal) f c (ix2 a n) = f (ix2 ⟨256 * c.val + a.val, by have : c.val < 8 := c.isLt; have := a.isLt; omega⟩ n) := by
  refine congrArg f (funext fun d => Fin.ext ?_)
  match d with
  | ⟨0, _⟩ => show 256 * c.val + 1 * a.val = _ + a.val; omega
  | ⟨1, _⟩ => show 0 + 1 * n.val = n.val; omega

variable (m : (ℓ : Loc nD τ sig) → Buf (Elt Ideal) ℓ)

/-- Device `c`'s result, at row `a`: the mathematics' result at row `256 c + a`. -/
theorem outAt_at (c : Dev nD) (ri : Vec Ideal S2048x1 .i32) (x : Vec Ideal S2048x512 .f32) (W : Vec Ideal ⟨3, ![64, 512, 1024]⟩ .f32)
    (hri : ∀ d, riC m d = ri) (hx : ∀ d, xC m d = x)
    (hw : ∀ d (q : Fin 8) (k : Fin 512) (n : Fin 1024), @Eq EReal (wC m d (ix3 q k n)) (W (ix3 (expOf d q) k n))) (a : Fin 256) (n : Fin 1024) :
    @Eq EReal (outAt m c (ix2 a n))
      (moe ri (fun E => ∑ k : Fin 512, x (ix2 ⟨256 * c.val + a.val, by have : c.val < 8 := c.isLt; have := a.isLt; omega⟩ k) * W (ix3 E k n))
        ⟨256 * c.val + a.val, by have : c.val < 8 := c.isLt; have := a.isLt; omega⟩) := by
  have hi : 256 * c.val + a.val < 2048 := by have : c.val < 8 := c.isLt; have := a.isLt; omega
  have hsend : ∀ d : Dev nD, @Eq EReal (blkOf (sbuf m d) c (ix2 a n))
      (∑ q : Fin 8, if eW ri ⟨256 * c.val + a.val, hi⟩ = BitVec.ofNat 32 (expOf d q).val ∧ cnt (eW ri) (expOf d q).val ⟨256 * c.val + a.val, hi⟩ ≤ 25
        then ∑ k : Fin 512, x (ix2 ⟨256 * c.val + a.val, hi⟩ k) * W (ix3 (expOf d q) k n) else 0) := by
    intro d
    refine (blkOf_at (sbuf m d) c a n).trans ?_
    unfold sbuf
    rw [hri, hx]
    refine send_experts d ri x (wC m d) _ n (fun E => ∑ k : Fin 512, x (ix2 ⟨256 * c.val + a.val, hi⟩ k) * W (ix3 E k n)) fun q => ?_
    exact Finset.sum_congr rfl fun k _ => congrArg (_ * ·) (hw d q k n).symm
  unfold moe
  rw [sum_experts, ← sum_devices c]
  simp only [← hsend]
  rfl

end Cert.MoeRun

end
-- ==== Proof.Value4.lean ====
/-
# The reference over the reals: its running count, its mask and its sum over the experts
-/
module

public import proofs.«01_k».proof.Proof.Value3
public import proofs.«01_k».proof.Proof.Gen.ReferenceIdeal.Run
public import Idealize.ShloMosaic.Lib.Routing.Ops

@[expose] public section

noncomputable section

namespace Cert.MoeRun

open Idealize.ShloMosaic Cert.ReferenceIdeal Cert.ReferenceIdeal.Gen

/-! ## The running count -/

/-- A position of a window of 2048 rows and one column is its row. -/
theorem window_at (n : Fin (⟨2, ![2048, 1]⟩ : Shape).numel) :
    ((⟨2, ![2048, 1]⟩ : Shape).rowMajor.symm n 0).val = n.val ∧ ((⟨2, ![2048, 1]⟩ : Shape).rowMajor.symm n 1).val = 0 := by
  have h1 : ((⟨2, ![2048, 1]⟩ : Shape).rowMajor.symm n 1).val < 1 := ((⟨2, ![2048, 1]⟩ : Shape).rowMajor.symm n 1).isLt
  have h2 := congrArg Fin.val ((⟨2, ![2048, 1]⟩ : Shape).rowMajor.apply_symm_apply n)
  rw [Shape.rowMajor_val_two] at h2
  change ((⟨2, ![2048, 1]⟩ : Shape).rowMajor.symm n 0).val * 1 + ((⟨2, ![2048, 1]⟩ : Shape).rowMajor.symm n 1).val = n.val at h2
  omega

/-- The window that ends at token `i` holds the tokens up to `i`: its ones are as many as the count says. -/
theorem window_card (e : Fin 2048 → BitVec 32) (E : ℕ) (i : Fin 2048) (N : ℕ) (hN : N = 2048) :
    (∑ n : Fin N, if ∃ h : 2047 ≤ i.val + n.val ∧ i.val + n.val - 2047 < 2048, e ⟨i.val + n.val - 2047, h.2⟩ = BitVec.ofNat 32 E then 1 else 0)
      = cnt e E i := by
  subst hN
  rw [← Finset.card_filter]
  unfold cnt
  refine Finset.card_bij (fun n hn => ⟨i.val + n.val - 2047, ((Finset.mem_filter.1 hn).2).choose.2⟩) ?_ ?_ ?_
  · intro n hn
    obtain ⟨h, he⟩ := (Finset.mem_filter.1 hn).2
    refine Finset.mem_filter.2 ⟨Finset.mem_univ _, ?_, he⟩
    show i.val + n.val - 2047 ≤ i.val
    have := n.isLt
    omega
  · intro a ha b hb hab
    obtain ⟨h, -⟩ := (Finset.mem_filter.1 ha).2
    obtain ⟨h', -⟩ := (Finset.mem_filter.1 hb).2
    rw [Fin.mk.injEq] at hab
    exact Fin.ext (by omega)
  · intro j hj
    obtain ⟨hle, he⟩ := (Finset.mem_filter.1 hj).2
    have hle : j.val ≤ i.val := hle
    have hi := i.isLt
    have e1 : i.val + (j.val + 2047 - i.val) - 2047 = j.val := by omega
    have hm : (⟨i.val + (j.val + 2047 - i.val) - 2047, by omega⟩ : Fin 2048) = j := Fin.ext e1
    refine ⟨⟨j.val + 2047 - i.val, by omega⟩, Finset.mem_filter.2 ⟨Finset.mem_univ _, ⟨⟨?_, ?_⟩, ?_⟩⟩, hm⟩
    · show 2047 ≤ i.val + (j.val + 2047 - i.val); omega
    · show i.val + (j.val + 2047 - i.val) - 2047 < 2048; omega
    · show e ⟨i.val + (j.val + 2047 - i.val) - 2047, _⟩ = _
      rw [hm]; exact he

/-- The running sum down a table of ones and zeros that marks the tokens naming each expert is the count. -/
theorem count_at (e : Fin 2048 → BitVec 32) (x : IVec S2048x64 32)
    (hx : ∀ (j : Fin 2048) (E : Fin 64), x (ix2 j E) = BitVec.ofNat 32 (if e j = BitVec.ofNat 32 E.val then 1 else 0))
    (v : IVec S_ 32) (hv : v (Shape.Idx.first h_S_) = 0#32) (i : Fin 2048) (E : Fin 64) :
    Host.reduceWindow IntOp.addi ![2048, 1] ![1, 1] ![2047, 0] ![0, 0] x v reduceWindows_S2048x64_S2048x64_w2048s1p2047_0_w1s1p0_0 h_S_ (ix2 i E)
      = BitVec.ofNat 32 (cnt e E.val i) := by
  have hN : (⟨2, ![2048, 1]⟩ : Shape).numel = 2048 := by decide
  unfold Host.reduceWindow
  refine (Routing.foldl_addi_ofNat _ _ (fun n : Fin (⟨2, ![2048, 1]⟩ : Shape).numel =>
    if ∃ h : 2047 ≤ i.val + n.val ∧ i.val + n.val - 2047 < 2048, e ⟨i.val + n.val - 2047, h.2⟩ = BitVec.ofNat 32 E.val then 1 else 0)
    (fun n _ => ?_) _ 0 hv).trans ?_
  · obtain ⟨w0, w1⟩ := window_at n
    have hE := E.isLt
    dsimp only
    split
    · next hin =>
      have h0 := hin 0
      change 2047 ≤ i.val * 1 + ((⟨2, ![2048, 1]⟩ : Shape).rowMajor.symm n 0).val
        ∧ i.val * 1 + ((⟨2, ![2048, 1]⟩ : Shape).rowMajor.symm n 0).val - 2047 < 2048 at h0
      rw [w0, Nat.mul_one] at h0
      refine (congrArg x (funext fun a => Fin.ext ?_)).trans ((hx ⟨i.val + n.val - 2047, h0.2⟩ E).trans ?_)
      · match a with
        | ⟨0, _⟩ =>
          show i.val * 1 + ((⟨2, ![2048, 1]⟩ : Shape).rowMajor.symm n 0).val - 2047 = i.val + n.val - 2047
          rw [w0, Nat.mul_one]
        | ⟨1, _⟩ =>
          show E.val * 1 + ((⟨2, ![2048, 1]⟩ : Shape).rowMajor.symm n 1).val - 0 = E.val
          rw [w1]; omega
      · exact congrArg (BitVec.ofNat 32) (if_congr ⟨fun h => ⟨h0, h⟩, fun ⟨_, h⟩ => h⟩ rfl rfl)
    · next hin =>
      rw [if_neg fun ⟨h, _⟩ => hin fun a => by
        match a with
        | ⟨0, _⟩ =>
          show 2047 ≤ i.val * 1 + ((⟨2, ![2048, 1]⟩ : Shape).rowMajor.symm n 0).val
            ∧ i.val * 1 + ((⟨2, ![2048, 1]⟩ : Shape).rowMajor.symm n 0).val - 2047 < 2048
          rw [w0, Nat.mul_one]
          exact h
        | ⟨1, _⟩ =>
          show 0 ≤ E.val * 1 + ((⟨2, ![2048, 1]⟩ : Shape).rowMajor.symm n 1).val
            ∧ E.val * 1 + ((⟨2, ![2048, 1]⟩ : Shape).rowMajor.symm n 1).val - 0 < 64
          rw [w1]; omega]
      exact hv
  · rw [Nat.zero_add, ← Fin.sum_univ_def, window_card e E.val i _ hN]

/-! ## The reference's term -/

/-- A bit that is not one is zero. -/
theorem if_neg_bit {b : BitVec 1} (h : ¬ b = 1#1) : b = 0#1 := by
  revert b; decide

/-- The reference's running count of the tokens that name each expert. -/
def refCount (ri : Vec Ideal S2048x1 .i32) : IVec S2048x64 32 :=
  (Host.reduceWindow IntOp.addi ![2048, 1] ![1, 1] ![2047, 0] ![0, 0] (extui 32 (cmpi .eq (broadcastInDim S2048x64 ![0, 1] bcast_S2048x1_S2048x64_0_1 (broadcastInDim S2048x1 ![0] bcast_S2048_S2048x1_0 (shapeCast _ ri shapeCasts_S2048x1_S2048))) (broadcastInDim S2048x64 ![0, 1] bcast_S1x64_S2048x64_0_1 (broadcastInDim S1x64 ![1] bcast_S64_S1x64_1 (iotaInDim S64 32 0)))) natLt_1_32) (broadcastInDim S_ ![] bcast_S_S_ (constantI S_ 32 0#32)) reduceWindows_S2048x64_S2048x64_w2048s1p2047_0_w1s1p0_0 h_S_)

/-- What the reference computes from the tokens, the routing and the experts' weights. -/
def refTerm (x : Vec Ideal S2048x512 .f32) (ri : Vec Ideal S2048x1 .i32) (w : Vec Ideal S64x512x1024 .f32) : Vec Ideal S2048x1024 .f32 :=
  Host.reduceAdd (F := Ideal) (select (broadcastInDim S64x2048x1024 ![0, 1, 2] bcast_S64x2048x1_S64x2048x1024_0_1_2 (broadcastInDim S64x2048x1 ![0, 1] bcast_S64x2048_S64x2048x1_0_1 (transpose S64x2048 [1, 0] (andi (cmpi .eq (broadcastInDim S2048x64 ![0, 1] bcast_S2048x1_S2048x64_0_1 (broadcastInDim S2048x1 ![0] bcast_S2048_S2048x1_0 (shapeCast _ ri shapeCasts_S2048x1_S2048))) (broadcastInDim S2048x64 ![0, 1] bcast_S1x64_S2048x64_0_1 (broadcastInDim S1x64 ![1] bcast_S64_S1x64_1 (iotaInDim S64 32 0)))) (cmpi .sle (refCount ri) (broadcastInDim S2048x64 ![] bcast_S_S2048x64 (constantI S_ 32 25#32)))) transposes_S2048x64_S64x2048_1_0))) (transpose S64x2048x1024 [0, 2, 1] (Host.dotGeneral (φ₁ := .f32) (φ₂ := .f32) dot_S64x512x1024_S2048x512_S64x1024x2048_1_1_02_0_n_n none w x) transposes_S64x1024x2048_S64x2048x1024_0_2_1) (broadcastInDim S64x2048x1024 ![] bcast_S_S64x2048x1024 (id (constant (F := Ideal) S_ .f32 0x00000000#32)))) (constant (F := Ideal) S_ .f32 0x00000000#32) reducesTo_S64x2048x1024_S2048x1024_d0 h_S_

/-- Entry `(i, E)` of the running count is the count of the tokens up to `i` that name expert `E`. -/
theorem refCount_at (ri : Vec Ideal S2048x1 .i32) (i : Fin 2048) (E : Fin 64) :
    refCount ri (ix2 i E) = BitVec.ofNat 32 (cnt (eW ri) E.val i) := by
  refine count_at (eW ri) _ (fun j E => ?_) _ rfl i E
  pointwise
  by_cases h : ri (ix2 j 0) = BitVec.ofNat 32 E.val
  · rw [if_pos (show eW ri j = _ from h), (IntOp.cmpi_eq).2 h]; rfl
  · rw [if_neg (show ¬ eW ri j = _ from h), (if_neg_bit fun h' => h (IntOp.cmpi_eq.1 h'))]; rfl

/-- Row `i` of the reference's result is what the mathematics names. -/
theorem refTerm_at (x : Vec Ideal S2048x512 .f32) (ri : Vec Ideal S2048x1 .i32) (w : Vec Ideal S64x512x1024 .f32) (i : Fin 2048) (n : Fin 1024) :
    refTerm x ri w (ix2 i n) = moe ri (fun E => ∑ k : Fin 512, x (ix2 i k) * w (ix3 E k n)) i := by
  have hz : @Eq EReal ((id (constant (F := Ideal) S_ .f32 0x00000000#32) : Vec Ideal S_ .f32) ix0) 0 := by
    rw [id_eq]
    pointwise
  pointwise [refTerm]
  rw [hz]
  unfold moe
  refine Finset.sum_congr rfl fun E _ => ?_
  have hc := cnt_le (eW ri) E.val i
  have hb : IntOp.andi (IntOp.cmpi .eq (ri (ix2 i 0)) (BitVec.ofNat 32 E.val)) (IntOp.cmpi .sle (refCount ri (ix2 i E)) 25#32) = 1#1
      ↔ eW ri i = BitVec.ofNat 32 E.val ∧ cnt (eW ri) E.val i ≤ 25 := by
    rw [IntOp.andi_eq_one, IntOp.cmpi_eq, refCount_at, show (25#32 : BitVec 32) = BitVec.ofNat 32 25 from rfl,
      WordCmp.cmpi_sle_ofNat_eq_one_iff (by omega) (by omega)]
    rfl
  unfold Scalar.select
  by_cases h : eW ri i = BitVec.ofNat 32 E.val ∧ cnt (eW ri) E.val i ≤ 25
  · rw [if_pos h]
    refine (if_pos (hb.2 h)).trans ?_
    exact Finset.sum_congr rfl fun k _ => mul_comm _ _
  · rw [if_neg h]
    exact if_neg fun h' => h (hb.1 h')

end Cert.MoeRun

end
-- ==== Proof.Value5.lean ====
/-
# The run's result array is the reference's block, over the reals
-/
module

public import proofs.«01_k».proof.Proof.Value4
public import proofs.«01_k».proof.Proof.Launch
public import Idealize.ShloMosaic.Lib.Layout

@[expose] public section

noncomputable section

namespace Cert.MoeRun

open Idealize.ShloMosaic Idealize.ShloMosaic.TcCoe Idealize.SL Idealize.SL.Sem
open Cert.KernelIdeal Cert.KernelIdeal.Gen

variable {F : FTy → Type} [FloatOps F]

/-- The routing's one block is the whole array. -/
theorem read_routing (f : (main_arg2 : Ref sig .tc).ty.Contents (Elt F)) : (win0_0.blk (0 : Fin 1)).view.read (Elt F) f = f :=
  funext fun i => congrArg f (funext fun a => Fin.ext (by
    match a with
    | ⟨0, _⟩ => show 0 + 1 * (i 0).val = (i 0).val; omega
    | ⟨1, _⟩ => show 0 + 1 * (i 1).val = (i 1).val; omega))

/-- The result's one block is the whole array. -/
theorem read_result (f : (main_v1 : Ref sig .tc).ty.Contents (Elt F)) : (win0_1.blk (0 : Fin 1)).view.read (Elt F) f = f :=
  funext fun i => congrArg f (funext fun a => Fin.ext (by
    match a with
    | ⟨0, _⟩ => show 0 + 1 * (i 0).val = (i 0).val; omega
    | ⟨1, _⟩ => show 0 + 1 * (i 1).val = (i 1).val; omega))

variable (m : (ℓ : Loc nD τ sig) → Buf (Elt F) ℓ) (ρ : Dev nD → PrngReg)

/-- The routing a device's kernel sees is its argument. -/
theorem riC_arg (c : Dev nD) : riC m c = m ((c : Thread nD τ).loc main_arg2) := read_routing _

/-- The result array ends at what the kernel computes. -/
theorem final_result (c : Dev nD) : finalA m ρ c (1 : Fin 2) = outAt m c := by
  refine (read_result (F := F) _).symm.trans ?_
  unfold finalA
  rw [show cfg0.N = (t0_0 : Fin cfg0.N).val + 1 from rfl, (dats m ρ 0 c).arrAt_succ (1 : Fin 2) t0_0, if_pos (flush0_1 t0_0)]
  exact View.read_write_univ _ _

end Cert.MoeRun

namespace Cert.MoeRun

open Idealize.ShloMosaic Idealize.ShloMosaic.TcCoe Idealize.SL Idealize.SL.Sem
open Cert.KernelIdeal Cert.KernelIdeal.Gen

variable (m : (ℓ : Loc nD τ sig) → Buf (Elt Ideal) ℓ)

/-- When the devices hold copies of the tokens and the routing, and their blocks of the experts, device `c` computes
    block `c` of the reference's result. -/
theorem outAt_block (c : Dev nD) (x : Vec Ideal S2048x512 .f32) (ri : Vec Ideal S2048x1 .i32) (W : Vec Ideal ⟨3, ![64, 512, 1024]⟩ .f32)
    (hx : ∀ d, xC m d = x) (hri : ∀ d, riC m d = ri)
    (hw : ∀ d, wC m d = Layout.block ⟨3, ![8, 512, 1024]⟩ ⟨3, ![64, 512, 1024]⟩ 0 8 d W) :
    outAt m c = Layout.block ⟨2, ![256, 1024]⟩ ⟨2, ![2048, 1024]⟩ 0 8 c (refTerm x ri W) := by
  have hw' : ∀ (d : Dev nD) (q : Fin 8) (k : Fin 512) (n : Fin 1024), @Eq EReal (wC m d (ix3 q k n)) (W (ix3 (expOf d q) k n)) := by
    intro d q k n
    rw [hw d, Layout.block_apply]
    refine congrArg W (funext fun a => Fin.ext ?_)
    rw [Layout.Tiles.idx_val]
    match a with
    | ⟨0, _⟩ => show d.val * 8 + q.val = 8 * d.val + q.val; omega
    | ⟨1, _⟩ => rfl
    | ⟨2, _⟩ => rfl
  funext i
  have hi : i = ix2 (i 0) (i 1) := funext fun a => by match a with | ⟨0, _⟩ => rfl | ⟨1, _⟩ => rfl
  rw [hi]
  refine (outAt_at m c ri x W hri hx hw' (i 0) (i 1)).trans ((refTerm_at x ri W _ _).symm.trans ?_)
  refine congrArg (refTerm x ri W) (funext fun a => Fin.ext ?_)
  match a with
  | ⟨0, _⟩ => show 256 * c.val + (i 0).val = c.val * 256 + (i 0).val; omega
  | ⟨1, _⟩ => rfl

end Cert.MoeRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value5
public import Idealize.ShloMosaic.Adequacy
public import Idealize.ShloMosaic.Init

@[expose] public section

noncomputable section

namespace Cert.Proof

open Idealize.ShloMosaic Idealize.ShloMosaic.TcCoe Idealize.SL.Sem

/-- For any float values the program runs on the eight devices from every memory with zero counters: it terminates, its
    arguments end unchanged and every semaphore counter ends at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono
    (fun _ h => ⟨fun c => ⟨(h.1 c).2.1, (h.1 c).2.2.1, ((h.1 c).1 (0 : Fin 2)).trans (Cert.MoeRun.final_routing m ρ c), (h.1 c).2.2.2⟩, h.2⟩)
    (Cert.MoeRun.run_main m ρ)

/-- The two programs have the same body tables. -/
theorem defs₀_eq {F : FTy → Type} [FloatOps F] : Cert.Kernel.defs₀ (F := F) = Cert.KernelIdeal.defs₀ (F := F) := by
  funext p l a
  cases p with
  | tc =>
    match l, a with
    | 0, (t, s) => rfl
  | scScalar _ => rfl
  | scVector _ _ => rfl
theorem defs_eq {F : FTy → Type} [FloatOps F] : Cert.Kernel.defs (F := F) = Cert.KernelIdeal.defs (F := F) := by
  show Pipeline.defs Cert.KernelIdeal.pcfgs (Cert.Kernel.defs₀ (F := F)) = Pipeline.defs Cert.KernelIdeal.pcfgs (Cert.KernelIdeal.defs₀ (F := F))
  exact congrArg (Pipeline.defs Cert.KernelIdeal.pcfgs) defs₀_eq

/-- The kernel's frame. -/
theorem frame_kernel : Cert.quiescent_Kernel := fun m ρ _ => by
  have h := frame_any (F := Bits) m ρ
  rw [← defs_eq] at h
  exact h

/-- Its idealization's frame. -/
theorem frame_ideal : Cert.quiescent_KernelIdeal := fun m ρ _ => frame_any (F := Ideal) m ρ

/-- The reference's frame; it declares no semaphore. -/
theorem frame_reference : Cert.quiescent_ReferenceIdeal := fun m ρ _ =>
  (θ_run Cert.ReferenceIdeal.defs _ _).mono
    (fun _ h => ⟨fun c => (h c).2, sem_eq_zero_of_no_sems (by decide) _⟩)
    (Cert.ReferenceIdeal.Value.run (F := Ideal) m ρ)

/-- Over the reals each device's result array ends at its block of the reference's result, and the arguments of both
    programs end unchanged. -/
theorem algebraic : Cert.algebraic_KernelIdeal_ReferenceIdeal := fun m ρ m' ρ' _ hin =>
  ⟨Cert.MoeRun.refTerm (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run Cert.KernelIdeal.defs _ _).mono
      (fun _ h c => ⟨((h.1 c).1 (1 : Fin 2)).trans ((Cert.MoeRun.final_result m ρ c).trans
          (Cert.MoeRun.outAt_block m c _ _ _ (fun d => (hin d).1) (fun d => (Cert.MoeRun.riC_arg m d).trans (hin d).2.2.1) (fun d => (hin d).2.2.2))),
        (h.1 c).2.1, (h.1 c).2.2.1, ((h.1 c).1 (0 : Fin 2)).trans (Cert.MoeRun.final_routing m ρ c), (h.1 c).2.2.2⟩)
      (Cert.MoeRun.run_main m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
